-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_vocabulary_KernelIdeal [hPre_labels_in_vocabulary_KernelIdeal : Cert.Pre_labels_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_vocabulary_ReferenceIdeal [hPre_labels_in_vocabulary_ReferenceIdeal : Cert.Pre_labels_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_in_vocabulary_KernelIdeal [hKernelIdeal : Cert.KernelIdeal.Facts] [hPre_labels_in_vocabulary_KernelIdeal : Cert.Pre_labels_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_vocabulary_ReferenceIdeal [hReferenceIdeal : Cert.ReferenceIdeal.Facts] [hPre_labels_in_vocabulary_ReferenceIdeal : Cert.Pre_labels_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_in_vocabulary_KernelIdeal [hKernelIdeal : Cert.KernelIdeal.Facts] [hReferenceIdeal : Cert.ReferenceIdeal.Facts] [hPre_labels_in_vocabulary_KernelIdeal : Cert.Pre_labels_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_vocabulary_KernelIdeal : Cert.Pre_labels_in_vocabulary_KernelIdeal.Facts) (hPre_labels_in_vocabulary_ReferenceIdeal : Cert.Pre_labels_in_vocabulary_ReferenceIdeal.Facts),
    quiescent_Kernel (hKernel := hKernel)
    ∧ quiescent_KernelIdeal (hKernelIdeal := hKernelIdeal)
    ∧ quiescent_KernelIdeal_pre_labels_in_vocabulary_KernelIdeal (hKernelIdeal := hKernelIdeal) (hPre_labels_in_vocabulary_KernelIdeal := hPre_labels_in_vocabulary_KernelIdeal)
    ∧ quiescent_ReferenceIdeal (hReferenceIdeal := hReferenceIdeal)
    ∧ quiescent_ReferenceIdeal_pre_labels_in_vocabulary_ReferenceIdeal (hReferenceIdeal := hReferenceIdeal) (hPre_labels_in_vocabulary_ReferenceIdeal := hPre_labels_in_vocabulary_ReferenceIdeal)
    ∧ preserves_Kernel_KernelIdeal
    ∧ algebraic_KernelIdeal_ReferenceIdeal_pre_labels_in_vocabulary_KernelIdeal (hKernelIdeal := hKernelIdeal) (hReferenceIdeal := hReferenceIdeal) (hPre_labels_in_vocabulary_KernelIdeal := hPre_labels_in_vocabulary_KernelIdeal)
-- ==== Pre_labels_in_vocabulary_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x512 .f32) (main_arg1 : FVec F S512x4096 .f32) (main_arg2 : IVec S256 32) : IVec S256 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 8192#32
  let main_v2 : IVec S256 32 := broadcastInDim S256 ![] bcast_S_S256 main_c_0
  let main_v3 : IVec S256 1 := cmpi .slt main_arg2 main_v2
  let main_v4 : IVec S256 1 := andi main_v1 main_v3
  main_v4
-- ==== Pre_labels_in_vocabulary_ReferenceIdeal.lean ====
abbrev S256x512 : Shape := ⟨2, ![256, 512]⟩
abbrev S512x8192 : Shape := ⟨2, ![512, 8192]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x512 .f32) (main_arg1 : FVec F S512x8192 .f32) (main_arg2 : IVec S256 32) : IVec S256 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 8192#32
  let main_v2 : IVec S256 32 := broadcastInDim S256 ![] bcast_S_S256 main_c_0
  let main_v3 : IVec S256 1 := cmpi .slt main_arg2 main_v2
  let main_v4 : IVec S256 1 := andi main_v1 main_v3
  main_v4
-- ==== Kernel.lean ====
abbrev S256x512 : Shape := ⟨2, ![256, 512]⟩
abbrev S512x4096 : Shape := ⟨2, ![512, 4096]⟩
abbrev S256 : Shape := ⟨1, ![256]⟩
abbrev S3x512x1024 : Shape := ⟨3, ![3, 512, 1024]⟩
abbrev S256x8 : Shape := ⟨2, ![256, 8]⟩
abbrev S_ : Shape := ⟨0, ![]⟩
abbrev S3 : Shape := ⟨1, ![3]⟩
abbrev S1 : Shape := ⟨1, ![1]⟩
abbrev S1x512x1024 : Shape := ⟨3, ![1, 512, 1024]⟩
abbrev S512x1024 : Shape := ⟨2, ![512, 1024]⟩
abbrev S256x256 : Shape := ⟨2, ![256, 256]⟩
abbrev S1x256 : Shape := ⟨2, ![1, 256]⟩
abbrev S256x1 : Shape := ⟨2, ![256, 1]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S256, .f32⟩
  | .local _ .vmem, ⟨0, _⟩ => ⟨S256, .f32⟩
  | .local _ .vmem, ⟨1, _⟩ => ⟨S256x512, .f32⟩
  | .local _ .vmem, ⟨2, _⟩ => ⟨S3x512x1024, .f32⟩
  | .local _ .vmem, ⟨3, _⟩ => ⟨S256, .i32⟩
  | .local _ .vmem, ⟨4, _⟩ => ⟨S256x8, .f32⟩
  | .local _ .vmem, ⟨5, _⟩ => ⟨S256x8, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_3 v5
  let c2_i32_6 : BitVec 32 := 2#32
  let v13 : BitVec 32 := Scalar.muli v10 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v183 : BitVec 32 := Scalar.muli v2 c4_i32_97
  let v184 : BitVec 32 := Scalar.addi c0_i32_98 v183
  let c1_i32_96 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_96 v5
  let c2_i32_99 : BitVec 32 := 2#32
  let v185 : BitVec 32 := Scalar.muli v182 c2_i32_99
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v187 : BitVec 32 := Scalar.muli v8 c1_i32_100
  let v188 : BitVec 32 := Scalar.addi v186 v187
  v188.toNat
abbrev stage0_0 : Fin 1 → Memref sig .tc .vmem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256 : Shape := ⟨1, ![256]⟩
abbrev S256x8192 : Shape := ⟨2, ![256, 8192]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256, .i32⟩
  | .hbm, ⟨3, _⟩ => ⟨S256x8192, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x8192, .f32⟩
  | .hbm, ⟨8, _⟩ => ⟨S256x8192, .f32⟩
  | .hbm, ⟨9, _⟩ => ⟨S256x8192, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Setup.lean ====
/-
# The two devices of a pair, the kernel's buffers, and the values it moves

The mesh is `2 × 2 × 2`; device `c` holds the columns of `W` with block number `c / 2 % 2` (the middle axis), and
exchanges its row statistics with the device that differs from it on that axis only. This module names that device,
the memrefs the kernel's transfers use (the four column chunks of `W`, the three slots of the buffer they land in),
and the values computed on each device as functions of the launch memory.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Transfers
public import Idealize.ShloMosaic.Lib.ViewIndex
public import Idealize.ShloMosaic.Lib.Tactic

@[expose] public section

noncomputable section

namespace Cert.PairLoss

open Cert.KernelIdeal Cert.KernelIdeal.Gen
open Idealize.ShloMosaic Idealize.ShloMosaic.TcCoe
open Idealize.SL Idealize.SL.Sem

variable {F : FTy → Type} [FloatOps F]

/-! ## The other device of the pair -/

/-- The device at the other coordinate of the middle mesh axis. -/
def mate (c : Dev nD) : Dev nD :=
  ⟨4 * (c.val / 4) + 2 * (1 - c.val / 2 % 2) + c.val % 2, by have h := c.isLt; change c.val < 8 at h; change _ < 8; omega⟩

/-- Taking the other device twice comes back. -/
theorem mate_mate (c : Dev nD) : mate (mate c) = c := by
  apply Fin.ext
  have h := c.isLt
  change c.val < 8 at h
  simp only [mate]
  omega

/-- The device the signal addresses. -/
theorem signal_target (c : Dev nD) : (⟨k0_dev1 c, k0_dev1_lt c⟩ : Dev nD) = mate c := by
  apply Fin.ext
  have h := c.isLt
  change c.val < 8 at h
  simp only [mate, k0_dev1_eq]
  omega

/-- The device the remote copy addresses. -/
theorem copy_target (c : Dev nD) : (⟨k0_dev2 c, k0_dev2_lt c⟩ : Dev nD) = mate c := by
  apply Fin.ext
  have h := c.isLt
  change c.val < 8 at h
  simp only [mate, k0_dev2_eq]
  omega

/-- Exchanging the two devices of every pair, as a permutation. -/
def exchange : Dev nD ≃ Dev nD where
  toFun := mate
  invFun := mate
  left_inv := mate_mate
  right_inv := mate_mate

/-! ## The memrefs -/

abbrev xSrc : Memref sig .tc .hbm S256x512 .f32 := Memref.whole main_arg0
abbrev wSrc : Memref sig .tc .hbm S512x4096 .f32 := Memref.whole main_arg1
abbrev tSrc : Memref sig .tc .hbm S256 .i32 := Memref.whole main_arg2
abbrev outB : Memref sig .tc .vmem S256 .f32 := Memref.whole cc0_stg0_0
abbrev xB : Memref sig .tc .vmem S256x512 .f32 := Memref.whole cc0_scratch0
abbrev wB : Memref sig .tc .vmem S3x512x1024 .f32 := Memref.whole cc0_scratch1
abbrev tB : Memref sig .tc .vmem S256 .i32 := Memref.whole cc0_scratch2
abbrev mineB : Memref sig .tc .vmem S256x8 .f32 := Memref.whole cc0_scratch3
abbrev theirB : Memref sig .tc .vmem S256x8 .f32 := Memref.whole cc0_scratch4

/-- The four chunks of 1024 columns of `W`. -/
abbrev chunkR0 : Rect S512x4096 := Rect.unit (s := S512x4096) ![0, 0] S512x1024.size inb_S512x4096_S512x1024_0_0
abbrev chunkR1 : Rect S512x4096 := Rect.unit (s := S512x4096) ![0, 1024] S512x1024.size inb_S512x4096_S512x1024_0_1024
abbrev chunkR2 : Rect S512x4096 := Rect.unit (s := S512x4096) ![0, 2048] S512x1024.size inb_S512x4096_S512x1024_0_2048
abbrev chunkR3 : Rect S512x4096 := Rect.unit (s := S512x4096) ![0, 3072] S512x1024.size inb_S512x4096_S512x1024_0_3072
abbrev chunk0 : Memref sig .tc .hbm S512x1024 .f32 := wSrc.slice chunkR0 (fun _ => rfl)
abbrev chunk1 : Memref sig .tc .hbm S512x1024 .f32 := wSrc.slice chunkR1 (fun _ => rfl)
abbrev chunk2 : Memref sig .tc .hbm S512x1024 .f32 := wSrc.slice chunkR2 (fun _ => rfl)
abbrev chunk3 : Memref sig .tc .hbm S512x1024 .f32 := wSrc.slice chunkR3 (fun _ => rfl)

/-- The three slots of the landing buffer. -/
abbrev slotR0 : Rect S3x512x1024 := Rect.unit (s := S3x512x1024) ![0, 0, 0] S1x512x1024.size inb_S3x512x1024_S1x512x1024_0_0_0
abbrev slotR1 : Rect S3x512x1024 := Rect.unit (s := S3x512x1024) ![1, 0, 0] S1x512x1024.size inb_S3x512x1024_S1x512x1024_1_0_0
abbrev slotR2 : Rect S3x512x1024 := Rect.unit (s := S3x512x1024) ![2, 0, 0] S1x512x1024.size inb_S3x512x1024_S1x512x1024_2_0_0
abbrev slot0 : Memref sig .tc .vmem S512x1024 .f32 := (wB.slice slotR0 (fun _ => rfl)).squeeze S512x1024 squeezes_S1x512x1024_S512x1024
abbrev slot1 : Memref sig .tc .vmem S512x1024 .f32 := (wB.slice slotR1 (fun _ => rfl)).squeeze S512x1024 squeezes_S1x512x1024_S512x1024
abbrev slot2 : Memref sig .tc .vmem S512x1024 .f32 := (wB.slice slotR2 (fun _ => rfl)).squeeze S512x1024 squeezes_S1x512x1024_S512x1024

/-- The three columns of the statistics buffer the kernel writes: maxima, sums, picked logits. -/
abbrev colR0 : Rect S256x8 := Rect.unit (s := S256x8) ![0, 0] S256x1.size inb_S256x8_S256x1_0_0
abbrev colR1 : Rect S256x8 := Rect.unit (s := S256x8) ![0, 1] S256x1.size inb_S256x8_S256x1_0_1
abbrev colR2 : Rect S256x8 := Rect.unit (s := S256x8) ![0, 2] S256x1.size inb_S256x8_S256x1_0_2

/-! ## The values -/

variable (m : (ℓ : Loc nD τ sig) → Buf (Elt F) ℓ) (c : Dev nD)

/-- The rows. -/
def xAt : Vec F S256x512 .f32 := m ((c : Thread nD τ).loc main_arg0)
/-- The labels. -/
def tAt : Vec F S256 .i32 := m ((c : Thread nD τ).loc main_arg2)
/-- A chunk of the device's block of `W`, as read from the slot it lands in: with a leading axis of one. -/
def chunkVal (v : Memref sig .tc .hbm S512x1024 .f32) (f : v.view.ty.Contents (Elt F)) : Vec F S1x512x1024 .f32 :=
  fun i => v.view.read (Elt F) f ((Shape.reshapeEquiv (s := S1x512x1024) (s' := S512x1024) squeezes_S1x512x1024_S512x1024.numel_eq).symm i)
def w0At : Vec F S1x512x1024 .f32 := chunkVal chunk0 (m ((c : Thread nD τ).loc main_arg1))
def w1At : Vec F S1x512x1024 .f32 := chunkVal chunk1 (m ((c : Thread nD τ).loc main_arg1))
def w2At : Vec F S1x512x1024 .f32 := chunkVal chunk2 (m ((c : Thread nD τ).loc main_arg1))
def w3At : Vec F S1x512x1024 .f32 := chunkVal chunk3 (m ((c : Thread nD τ).loc main_arg1))

/-- The block number of the device on the middle mesh axis, as the kernel computes it. -/
def blockWord : BitVec 32 := Scalar.remsi (Scalar.divsi (Dev.word c) 2#32) 2#32
def rowIds : IVec S256x256 32 := iota .tc S256x256 32 [0] iota_S256x256_d0_w32
def colIds : IVec S256x256 32 := iota .tc S256x256 32 [1] iota_S256x256_d1_w32

/-- The labels as floats, minus the device's first column. -/
def label0 : FVec F S256x1 .f32 := k0_pay2 (blockWord c) rowIds colIds (tAt m c)

/-- Running maximum after three chunks, and after all four. -/
def max3 : FVec F S256x1 .f32 :=
  k0_pay16 (xAt m c) (k0_pay5 (xAt m c) (w0At m c)) (k0_pay10 (xAt m c) (w1At m c)) (w2At m c)
def maxAt : FVec F S256x1 .f32 := k0_pay21 (xAt m c) (max3 m c) (w3At m c)
/-- Running sum of exponentials after three chunks, and after all four. -/
def sum3 : FVec F S256x1 .f32 :=
  k0_pay17 (xAt m c) (k0_pay5 (xAt m c) (w0At m c)) (k0_pay7 (k0_pay6 (xAt m c) (w0At m c))) (k0_pay10 (xAt m c) (w1At m c))
    (k0_pay11 (xAt m c) (w1At m c)) (w2At m c)
def sumAt : FVec F S256x1 .f32 := k0_pay22 (xAt m c) (max3 m c) (sum3 m c) (w3At m c)
/-- Running sum of the logits picked by the label after three chunks, and after all four. -/
def pick3 : FVec F S256x1 .f32 :=
  k0_pay18 (label0 m c) k0_pay3 (xAt m c) (k0_pay8 (label0 m c) k0_pay3 (k0_pay4 (xAt m c) (w0At m c)))
    (k0_pay12 (label0 m c) k0_pay3 (xAt m c) (w1At m c)) (w2At m c)
def pickAt : FVec F S256x1 .f32 := k0_pay23 (label0 m c) k0_pay3 (xAt m c) (pick3 m c) (w3At m c)

/-- What the three columns hold when they are sent. -/
def maxSent : FVec F S256x1 .f32 := k0_pay24 (xAt m c) (max3 m c) (w3At m c)
def sumSent : FVec F S256x1 .f32 := k0_pay25 (xAt m c) (max3 m c) (sum3 m c) (w3At m c)
def pickSent : FVec F S256x1 .f32 := k0_pay26 (pickAt m c)

/-- The result block of the device. -/
def lossAt : FVec F S256 .f32 :=
  k0_pay27 (k0_pay1 rowIds colIds) (maxAt m c) (sumAt m c) (pickAt m c) (maxSent m (mate c)) (sumSent m (mate c)) (pickSent m (mate c))

/-- A statistics buffer whose three columns are those of device `d`. -/
def Holds (d : Dev nD) (f : (cc0_scratch4 : Ref sig .tc).ty.Contents (Elt F)) : Prop :=
  theirB.view.readAt (Elt F) colR0.toLoadRect f = maxSent m d ∧ theirB.view.readAt (Elt F) colR1.toLoadRect f = sumSent m d
    ∧ theirB.view.readAt (Elt F) colR2.toLoadRect f = pickSent m d

end Cert.PairLoss

end
-- ==== Proof.Memory.lean ====
/-
# The pieces of the buffers

`W` is read in four disjoint column chunks and lands in three disjoint slots; the statistics buffer is written in
three disjoint columns. This module says which elements each piece has, that the pieces of `W` and of the landing
buffer make up the whole, and what a load reads back after a copy or after the three stores.
-/
module

public import proofs.«01_k».proof.Proof.Setup

@[expose] public section

noncomputable section

namespace Cert.PairLoss

open Cert.KernelIdeal Cert.KernelIdeal.Gen
open Idealize.ShloMosaic Idealize.ShloMosaic.TcCoe
open Idealize.SL Idealize.SL.Sem

variable {F : FTy → Type} [FloatOps F]

/-! ## Chunks of `W` -/

omit [FloatOps F] in
/-- A slice of a whole buffer has the rectangle's elements. -/
theorem chunk_set (r : Rect S512x4096) (h) : (wSrc.slice r h).view.set = r.set := View.set_slice_whole _ _

omit [FloatOps F] in
/-- A slot has the elements of its rectangle. -/
theorem slot_set (r : Rect S3x512x1024) (h) (s' : Shape) (hq) : ((wB.slice r h).squeeze s' hq).view.set = r.set :=
  (View.set_reshape _ _).trans (View.set_slice_whole _ _)

/-- The chunk `k` of the four. -/
def chunkR : Fin 4 → Rect S512x4096 := fun | 0 => chunkR0 | 1 => chunkR1 | 2 => chunkR2 | 3 => chunkR3
/-- The slot `k` of the three. -/
def slotR : Fin 3 → Rect S3x512x1024 := fun | 0 => slotR0 | 1 => slotR1 | 2 => slotR2

/-- Chunks starting at different multiples of 1024 share no element. -/
theorem chunk_apart (a b : ℕ) (inb inb') (h : a + 1024 ≤ b ∨ b + 1024 ≤ a) :
    Disjoint (Rect.unit (s := S512x4096) ![0, a] S512x1024.size inb).set (Rect.unit (s := S512x4096) ![0, b] S512x1024.size inb').set :=
  Rect.unit_disjoint 1 h

/-- Slots of different numbers share no element. -/
theorem slot_apart (a b : ℕ) (inb inb') (h : a + 1 ≤ b ∨ b + 1 ≤ a) :
    Disjoint (Rect.unit (s := S3x512x1024) ![a, 0, 0] S1x512x1024.size inb).set (Rect.unit (s := S3x512x1024) ![b, 0, 0] S1x512x1024.size inb').set :=
  Rect.unit_disjoint 0 h

/-- Columns of different numbers share no element. -/
theorem col_apart (a b : ℕ) (inb inb') (h : a + 1 ≤ b ∨ b + 1 ≤ a) :
    Disjoint (Rect.unit (s := S256x8) ![0, a] S256x1.size inb).set (Rect.unit (s := S256x8) ![0, b] S256x1.size inb').set :=
  Rect.unit_disjoint 1 h

/-- Different chunks share no element. -/
theorem chunk_disjoint : ∀ k ∈ (Finset.univ : Finset (Fin 4)), ∀ k' ∈ (Finset.univ : Finset (Fin 4)), k ≠ k' → Disjoint (chunkR k).set (chunkR k').set
  | 0, _, 0, _, h | 1, _, 1, _, h | 2, _, 2, _, h | 3, _, 3, _, h => absurd rfl h
  | 0, _, 1, _, _ => chunk_apart 0 1024 inb_S512x4096_S512x1024_0_0 inb_S512x4096_S512x1024_0_1024 (by omega)
  | 0, _, 2, _, _ => chunk_apart 0 2048 inb_S512x4096_S512x1024_0_0 inb_S512x4096_S512x1024_0_2048 (by omega)
  | 0, _, 3, _, _ => chunk_apart 0 3072 inb_S512x4096_S512x1024_0_0 inb_S512x4096_S512x1024_0_3072 (by omega)
  | 1, _, 0, _, _ => chunk_apart 1024 0 inb_S512x4096_S512x1024_0_1024 inb_S512x4096_S512x1024_0_0 (by omega)
  | 1, _, 2, _, _ => chunk_apart 1024 2048 inb_S512x4096_S512x1024_0_1024 inb_S512x4096_S512x1024_0_2048 (by omega)
  | 1, _, 3, _, _ => chunk_apart 1024 3072 inb_S512x4096_S512x1024_0_1024 inb_S512x4096_S512x1024_0_3072 (by omega)
  | 2, _, 0, _, _ => chunk_apart 2048 0 inb_S512x4096_S512x1024_0_2048 inb_S512x4096_S512x1024_0_0 (by omega)
  | 2, _, 1, _, _ => chunk_apart 2048 1024 inb_S512x4096_S512x1024_0_2048 inb_S512x4096_S512x1024_0_1024 (by omega)
  | 2, _, 3, _, _ => chunk_apart 2048 3072 inb_S512x4096_S512x1024_0_2048 inb_S512x4096_S512x1024_0_3072 (by omega)
  | 3, _, 0, _, _ => chunk_apart 3072 0 inb_S512x4096_S512x1024_0_3072 inb_S512x4096_S512x1024_0_0 (by omega)
  | 3, _, 1, _, _ => chunk_apart 3072 1024 inb_S512x4096_S512x1024_0_3072 inb_S512x4096_S512x1024_0_1024 (by omega)
  | 3, _, 2, _, _ => chunk_apart 3072 2048 inb_S512x4096_S512x1024_0_3072 inb_S512x4096_S512x1024_0_2048 (by omega)

/-- The chunks make up all of the device's block of `W`. -/
theorem chunk_cover : (Finset.univ : Finset (Fin 4)).biUnion (fun k => (chunkR k).set) = Finset.univ := by
  ext i
  simp only [Finset.mem_biUnion, Finset.mem_univ, true_and, iff_true]
  have h0 : (i 0 : ℕ) < 512 := (i 0).isLt
  have h1 : (i 1 : ℕ) < 4096 := (i 1).isLt
  have key (k : ℕ) (inb : ∀ a, (![0, k] : Fin 2 → ℕ) a + S512x1024.size a ≤ S512x4096.size a) (lo : k ≤ (i 1 : ℕ)) (hi : (i 1 : ℕ) < k + 1024) :
      i ∈ (Rect.unit (s := S512x4096) ![0, k] S512x1024.size inb).set := by
    refine Rect.mem_set_unit.mpr fun a => ?_
    fin_cases a
    · exact ⟨Nat.zero_le _, by show (i 0 : ℕ) < 0 + 512; omega⟩
    · exact ⟨lo, hi⟩
  by_cases a : (i 1 : ℕ) < 1024
  · exact ⟨0, key 0 inb_S512x4096_S512x1024_0_0 (by omega) (by omega)⟩
  by_cases b : (i 1 : ℕ) < 2048
  · exact ⟨1, key 1024 inb_S512x4096_S512x1024_0_1024 (by omega) (by omega)⟩
  by_cases d : (i 1 : ℕ) < 3072
  · exact ⟨2, key 2048 inb_S512x4096_S512x1024_0_2048 (by omega) (by omega)⟩
  · exact ⟨3, key 3072 inb_S512x4096_S512x1024_0_3072 (by omega) (by omega)⟩

/-- Different slots share no element. -/
theorem slot_disjoint : ∀ k ∈ (Finset.univ : Finset (Fin 3)), ∀ k' ∈ (Finset.univ : Finset (Fin 3)), k ≠ k' → Disjoint (slotR k).set (slotR k').set
  | 0, _, 0, _, h | 1, _, 1, _, h | 2, _, 2, _, h => absurd rfl h
  | 0, _, 1, _, _ => slot_apart 0 1 inb_S3x512x1024_S1x512x1024_0_0_0 inb_S3x512x1024_S1x512x1024_1_0_0 (by omega)
  | 0, _, 2, _, _ => slot_apart 0 2 inb_S3x512x1024_S1x512x1024_0_0_0 inb_S3x512x1024_S1x512x1024_2_0_0 (by omega)
  | 1, _, 0, _, _ => slot_apart 1 0 inb_S3x512x1024_S1x512x1024_1_0_0 inb_S3x512x1024_S1x512x1024_0_0_0 (by omega)
  | 1, _, 2, _, _ => slot_apart 1 2 inb_S3x512x1024_S1x512x1024_1_0_0 inb_S3x512x1024_S1x512x1024_2_0_0 (by omega)
  | 2, _, 0, _, _ => slot_apart 2 0 inb_S3x512x1024_S1x512x1024_2_0_0 inb_S3x512x1024_S1x512x1024_0_0_0 (by omega)
  | 2, _, 1, _, _ => slot_apart 2 1 inb_S3x512x1024_S1x512x1024_2_0_0 inb_S3x512x1024_S1x512x1024_1_0_0 (by omega)

/-- The slots make up the whole landing buffer. -/
theorem slot_cover : (Finset.univ : Finset (Fin 3)).biUnion (fun k => (slotR k).set) = Finset.univ := by
  ext i
  simp only [Finset.mem_biUnion, Finset.mem_univ, true_and, iff_true]
  have h0 : (i 0 : ℕ) < 3 := (i 0).isLt
  have h1 : (i 1 : ℕ) < 512 := (i 1).isLt
  have h2 : (i 2 : ℕ) < 1024 := (i 2).isLt
  have key (k : ℕ) (inb : ∀ a, (![k, 0, 0] : Fin 3 → ℕ) a + S1x512x1024.size a ≤ S3x512x1024.size a) (hk : (i 0 : ℕ) = k) :
      i ∈ (Rect.unit (s := S3x512x1024) ![k, 0, 0] S1x512x1024.size inb).set := by
    refine Rect.mem_set_unit.mpr fun a => ?_
    fin_cases a
    · exact ⟨by show k ≤ (i 0 : ℕ); omega, by show (i 0 : ℕ) < k + 1; omega⟩
    · exact ⟨Nat.zero_le _, by show (i 1 : ℕ) < 0 + 512; omega⟩
    · exact ⟨Nat.zero_le _, by show (i 2 : ℕ) < 0 + 1024; omega⟩
  by_cases a : (i 0 : ℕ) = 0
  · exact ⟨0, key 0 inb_S3x512x1024_S1x512x1024_0_0_0 a⟩
  by_cases b : (i 0 : ℕ) = 1
  · exact ⟨1, key 1 inb_S3x512x1024_S1x512x1024_1_0_0 b⟩
  · exact ⟨2, key 2 inb_S3x512x1024_S1x512x1024_2_0_0 (by omega)⟩

omit [FloatOps F] in
/-- A load of a slot touches only the slot's elements. -/
theorem slot_load_subset (r : Rect S3x512x1024) : wB.view.setOn r.set ⊆ r.set := by
  intro i hi
  have h := (View.set_slice (wB.view) r).symm.subset hi
  rwa [View.set_slice_whole] at h

/-! ## What a load reads back -/

omit [FloatOps F] in
/-- After a chunk was copied into a slot, a load of the slot reads the chunk. -/
theorem slot_read (r : Rect S3x512x1024) (h) (hsz : r.shape = S1x512x1024) (hq : r.shape.Squeezes S512x1024)
    (v : Memref sig .tc .hbm S512x1024 .f32) (g : v.view.ty.Contents (Elt F)) (f : (cc0_scratch1 : Ref sig .tc).ty.Contents (Elt F)) :
    wB.view.readAt (Elt F) r.toLoadRect (((wB.slice r h).squeeze S512x1024 hq).view.write (Elt F) f (ReadAs.same.apply (v.view.read (Elt F) g)) Finset.univ)
      = fun i => v.view.read (Elt F) g ((Shape.reshapeEquiv hq.numel_eq).symm i) := by
  funext i
  have e := View.read_write_reshape (Val := Elt F) (v := wB.view.slice r) (s' := S512x1024) (h := hq.numel_eq) (f := f)
    (w := v.view.read (Elt F) g) (x := (Shape.reshapeEquiv hq.numel_eq).symm i)
  rw [Equiv.apply_symm_apply] at e
  rw [View.readAt_rect]
  exact e

omit [FloatOps F] in
theorem slot_read0 (v : Memref sig .tc .hbm S512x1024 .f32) (g : v.view.ty.Contents (Elt F)) (f : (cc0_scratch1 : Ref sig .tc).ty.Contents (Elt F)) :
    wB.view.readAt (Elt F) slotR0.toLoadRect (slot0.view.write (Elt F) f (ReadAs.same.apply (v.view.read (Elt F) g)) Finset.univ) = chunkVal v g :=
  slot_read slotR0 _ rfl _ v g f
omit [FloatOps F] in
theorem slot_read1 (v : Memref sig .tc .hbm S512x1024 .f32) (g : v.view.ty.Contents (Elt F)) (f : (cc0_scratch1 : Ref sig .tc).ty.Contents (Elt F)) :
    wB.view.readAt (Elt F) slotR1.toLoadRect (slot1.view.write (Elt F) f (ReadAs.same.apply (v.view.read (Elt F) g)) Finset.univ) = chunkVal v g :=
  slot_read slotR1 _ rfl _ v g f
omit [FloatOps F] in
theorem slot_read2 (v : Memref sig .tc .hbm S512x1024 .f32) (g : v.view.ty.Contents (Elt F)) (f : (cc0_scratch1 : Ref sig .tc).ty.Contents (Elt F)) :
    wB.view.readAt (Elt F) slotR2.toLoadRect (slot2.view.write (Elt F) f (ReadAs.same.apply (v.view.read (Elt F) g)) Finset.univ) = chunkVal v g :=
  slot_read slotR2 _ rfl _ v g f

theorem zero1 : (![0] : Fin 1 → ℕ) = fun _ => 0 := funext fun a => by fin_cases a; rfl
theorem zero2 : (![0, 0] : Fin 2 → ℕ) = fun _ => 0 := funext fun a => by fin_cases a <;> rfl

omit [FloatOps F] in
/-- A load of the rows' buffer reads all of it. -/
theorem x_read (f : (cc0_scratch0 : Ref sig .tc).ty.Contents (Elt F)) (inb) :
    xB.view.readAt (Elt F) (Rect.unit (s := S256x512) ![0, 0] S256x512.size inb).toLoadRect f = f :=
  Memref.readAt_unit_zero (Elt F) cc0_scratch0 zero2 _ f
omit [FloatOps F] in
/-- A load of the labels' buffer reads all of it. -/
theorem t_read (f : (cc0_scratch2 : Ref sig .tc).ty.Contents (Elt F)) (inb) :
    tB.view.readAt (Elt F) (Rect.unit (s := S256) ![0] S256.size inb).toLoadRect f = f :=
  Memref.readAt_unit_zero (Elt F) cc0_scratch2 zero1 _ f
omit [FloatOps F] in
/-- A store of the whole result block leaves it. -/
theorem out_write (f w : (cc0_stg0_0 : Ref sig .tc).ty.Contents (Elt F)) (inb) :
    (outB.access (Rect.unit (s := S256) ![0] S256.size inb) : View sig .tc _ _ _).write (Elt F) f w Finset.univ = w :=
  Memref.write_access_unit_zero_univ (Elt F) cc0_stg0_0 zero1 _ f w

omit [FloatOps F] in
/-- A copy of one whole buffer over another leaves the source's contents. -/
theorem whole_copy (a b : Ref sig .tc) (hs : a.ty = b.ty) (f : b.ty.Contents (Elt F)) (w : b.ty.Contents (Elt F)) :
    (Memref.whole b).view.write (Elt F) f w Finset.univ = w := by
  show (View.whole b).write (Elt F) f w Finset.univ = w
  exact View.write_whole_univ _ _ _

/-! ## The statistics columns -/

variable (m : (ℓ : Loc nD τ sig) → Buf (Elt F) ℓ)

omit [FloatOps F] in
/-- Reading a column just stored gives what was stored; a store to another column does not change it. -/
theorem cols_read (f : (cc0_scratch3 : Ref sig .tc).ty.Contents (Elt F)) (a b d : S256x1.Idx → Elt F .f32) :
    mineB.view.readAt (Elt F) colR0.toLoadRect ((mineB.access colR2 : View sig .tc _ _ _).write (Elt F) ((mineB.access colR1 : View sig .tc _ _ _).write (Elt F) ((mineB.access colR0 : View sig .tc _ _ _).write (Elt F) f a Finset.univ) b Finset.univ) d Finset.univ) = a
    ∧ mineB.view.readAt (Elt F) colR1.toLoadRect ((mineB.access colR2 : View sig .tc _ _ _).write (Elt F) ((mineB.access colR1 : View sig .tc _ _ _).write (Elt F) ((mineB.access colR0 : View sig .tc _ _ _).write (Elt F) f a Finset.univ) b Finset.univ) d Finset.univ) = b
    ∧ mineB.view.readAt (Elt F) colR2.toLoadRect ((mineB.access colR2 : View sig .tc _ _ _).write (Elt F) ((mineB.access colR1 : View sig .tc _ _ _).write (Elt F) ((mineB.access colR0 : View sig .tc _ _ _).write (Elt F) f a Finset.univ) b Finset.univ) d Finset.univ) = d := by
  have hdisj (r r' : Rect S256x8) (M : Finset r'.shape.Idx) (h : Disjoint r.set r'.set) :
      Disjoint (mineB.view.slice r).set ((mineB.view.slice r').setOn M) := by
    refine Disjoint.mono_right (View.setOn_subset_set _ M) ?_
    rw [View.set_slice_whole, View.set_slice_whole]; exact h
  simp only [View.readAt_rect]
  refine ⟨?_, ?_, ?_⟩
  · refine (View.read_slice_write_slice_of_disjoint colR0 colR2 _ _ _ (hdisj _ _ _ (col_apart 0 2 inb_S256x8_S256x1_0_0 inb_S256x8_S256x1_0_2 (by omega)))).trans ?_
    refine (View.read_slice_write_slice_of_disjoint colR0 colR1 _ _ _ (hdisj _ _ _ (col_apart 0 1 inb_S256x8_S256x1_0_0 inb_S256x8_S256x1_0_1 (by omega)))).trans ?_
    exact View.read_write_univ _ _
  · refine (View.read_slice_write_slice_of_disjoint colR1 colR2 _ _ _ (hdisj _ _ _ (col_apart 1 2 inb_S256x8_S256x1_0_1 inb_S256x8_S256x1_0_2 (by omega)))).trans ?_
    exact View.read_write_univ _ _
  · exact View.read_write_univ _ _

/-- The three stores of a device leave a buffer that holds its statistics. -/
theorem holds_stores (d : Dev nD) (f : (cc0_scratch3 : Ref sig .tc).ty.Contents (Elt F)) :
    Holds m d ((mineB.access colR2 : View sig .tc _ _ _).write (Elt F) ((mineB.access colR1 : View sig .tc _ _ _).write (Elt F) ((mineB.access colR0 : View sig .tc _ _ _).write (Elt F) f (maxSent m d) Finset.univ) (sumSent m d) Finset.univ) (pickSent m d) Finset.univ) :=
  cols_read f _ _ _

end Cert.PairLoss

end
-- ==== Proof.Protocol.lean ====
/-
# The protocol between the two devices of a pair

Three counters of every device `c` are shared with its mate:

* the READY counter (the barrier semaphore): the mate raises it by one when it starts; with the unit comes the mate's
  landing buffer for statistics, which the mate does not touch until its receive counter is full;
* the RECEIVE counter: raised by the mate's remote copy by the size of the copied buffer; with it comes `c`'s landing
  buffer holding the mate's three statistics columns;
* the SENT counter: raised by `c`'s own remote copy; with it comes back the buffer it copied from.

Each counter has one round. Levels order the waits: a device waiting for its ready counter may still owe its mate the
receive counter, nothing else; every other wait but the receive one is below both.
The five counters of the local copies carry no protocol: each is held by its own device, at zero between copies.
-/
module

public import proofs.«01_k».proof.Proof.Memory

@[expose] public section

noncomputable section

namespace Cert.PairLoss

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The ghost state: the pipeline's rounds, the pair's rounds, the local transfers' counters -/

abbrev PairU : Type := UR sig nD τ × Counters
abbrev UU : Type := UR sig nD τ × PairU

local notation "𝕄" => MT nD τ sig Unit (Elt F) ℕ UU ℕ

abbrev pipeE : Emb (UR sig nD τ) (MT nD τ sig Unit (Elt F) ℕ UU ℕ) := embL
/-- The pair's rounds: left half of the right factor. -/
def pairE : Emb (UR sig nD τ) (MT nD τ sig Unit (Elt F) ℕ UU ℕ) :=
  ((Emb.inl : Emb (UR sig nD τ) PairU).trans (Emb.inr : Emb PairU UU)).trans
    (uEmb (nD := nD) (sig := sig) (Ix := Unit) (Val := Elt F) (Name := ℕ) (U := UU) (Lvl := ℕ)).toEmb
instance pairE_landsIn : (pairE : Emb (UR sig nD τ) 𝕄).LandsIn (upEmb : UEmb _ 𝕄) := by unfold pairE; infer_instance
/-- The local transfers' counters. -/
abbrev cntE : UEmb Counters (MT nD τ sig Unit (Elt F) ℕ UU ℕ) := countersEmb

variable (m : (ℓ : Loc nD τ sig) → Buf (Elt F) ℓ) (ρ : Dev nD → PrngReg)

/-- The launch memory: contents `m`, counters at zero. -/
def start₀ : MemSt nD τ sig (Elt F) := ⟨m, fun _ => 0, ρ⟩

/-! ## The counters -/

abbrev readySem : SemLoc sig := .reg ((SemArray.scalar (sig.barrier 0 rfl) : Sems sig S_).sem)
abbrev sentSem : SemLoc sig := .dma (cc0_scratch8 : DmaSems sig S_).sem
abbrev recvSem : SemLoc sig := .dma (cc0_scratch9 : DmaSems sig S_).sem
abbrev xSem : DmaSem sig := (cc0_scratch5 : DmaSems sig S_).sem
abbrev tSem : DmaSem sig := (cc0_scratch6 : DmaSems sig S_).sem
abbrev wSem0 : DmaSem sig := ((cc0_scratch7.slice (Rect.unit (s := S3) ![0] S1.size inb_S3_S1_0)).squeeze S_ squeezes_S1_S_ : DmaSems sig S_).sem
abbrev wSem1 : DmaSem sig := ((cc0_scratch7.slice (Rect.unit (s := S3) ![1] S1.size inb_S3_S1_1)).squeeze S_ squeezes_S1_S_ : DmaSems sig S_).sem
abbrev wSem2 : DmaSem sig := ((cc0_scratch7.slice (Rect.unit (s := S3) ![2] S1.size inb_S3_S1_2)).squeeze S_ squeezes_S1_S_ : DmaSems sig S_).sem

abbrev readyC (c : Dev nD) : GSem nD τ sig := ((c : Thread nD τ), readySem)
abbrev sentC (c : Dev nD) : GSem nD τ sig := ((c : Thread nD τ), sentSem)
abbrev recvC (c : Dev nD) : GSem nD τ sig := ((c : Thread nD τ), recvSem)

theorem sent_ne_ready : (sentSem : SemLoc sig) ≠ readySem := fun h => by cases h
theorem recv_ne_ready : (recvSem : SemLoc sig) ≠ readySem := fun h => by cases h
theorem sent_ne_recv : (sentSem : SemLoc sig) ≠ recvSem := by decide

/-- What a copy of a statistics buffer adds to a counter. -/
abbrev credit : ℕ := (theirB : Memref sig .tc .vmem S256x8 .f32).view.dmaCredit
theorem credit_pos : 0 < credit := View.dmaCredit_pos _ (by decide)

/-! ## What each counter carries -/

/-- Device `c`'s statistics buffer. -/
def minePts (c : Dev nD) (f : Buf (Elt F) (mineB.view.loc (c : Thread nD τ))) : sProp 𝕄 :=
  mineB.view.loc (c : Thread nD τ) ↦[mineB.view.set]{fullShare} f
/-- Device `c`'s landing buffer for its mate's statistics. -/
def theirPts (c : Dev nD) (f : Buf (Elt F) (theirB.view.loc (c : Thread nD τ))) : sProp 𝕄 :=
  theirB.view.loc (c : Thread nD τ) ↦[theirB.view.set]{fullShare} f

instance minePts_storable (c : Dev nD) (f) : BI.Storable (upEmb : UEmb _ 𝕄) (minePts (F := F) c f) := by unfold minePts; infer_instance
instance theirPts_storable (c : Dev nD) (f) : BI.Storable (upEmb : UEmb _ 𝕄) (theirPts (F := F) c f) := by unfold theirPts; infer_instance

theorem minePts_eq (c : Dev nD) (f : Buf (Elt F) ((c : Thread nD τ).loc cc0_scratch3)) :
    minePts c f = (((c : Thread nD τ).loc cc0_scratch3) ↦{fullShare} f : sProp 𝕄) := by
  unfold minePts; rw [show (mineB : Memref sig .tc .vmem S256x8 .f32).view.set = Finset.univ from View.set_whole _]
theorem theirPts_eq (c : Dev nD) (f : Buf (Elt F) ((c : Thread nD τ).loc cc0_scratch4)) :
    theirPts c f = (((c : Thread nD τ).loc cc0_scratch4) ↦{fullShare} f : sProp 𝕄) := by
  unfold theirPts; rw [show (theirB : Memref sig .tc .vmem S256x8 .f32).view.set = Finset.univ from View.set_whole _]

def readyPay (c : Dev nD) : sProp 𝕄 := iprop((∃ f, theirPts (mate c) f) ∗ reached pairE (recvC (mate c)) 0)
def recvPay (c : Dev nD) : sProp 𝕄 := iprop(∃ f : Buf (Elt F) (theirB.view.loc (c : Thread nD τ)), ⌜Holds m (mate c) f⌝ ∗ theirPts c f)
def sentPay (c : Dev nD) : sProp 𝕄 := iprop(∃ f, minePts c f)

/-- The schedule: one round, one duty, at each of the three counters of each TensorCore. -/
def pairRd : Rounds.Schedule (GSem nD τ sig) Unit 𝕄 where
  duties g r := if r = 0 ∧ g.1.2 = .tc ∧ (g.2 = readySem ∨ g.2 = sentSem ∨ g.2 = recvSem) then {()} else ∅
  unitless _ := False
  amount g _ _ := if g.2 = readySem then 1 else credit
  payload g _ _ :=
    if g.2 = readySem then readyPay g.1.1
    else if g.2 = sentSem then sentPay g.1.1
    else if g.2 = recvSem then recvPay m g.1.1
    else iprop(emp)
  amount_pos g _ _ _ := by
    split
    · exact Nat.one_pos
    · exact credit_pos

instance pairRd_storable (g : GSem nD τ sig) (r : ℕ) (d : Unit) : BI.Storable (upEmb : UEmb _ 𝕄) ((pairRd (F := F) m).payload g r d) := by
  show BI.Storable upEmb (if g.2 = readySem then readyPay g.1.1 else if g.2 = sentSem then sentPay g.1.1
    else if g.2 = recvSem then recvPay m g.1.1 else iprop(emp))
  unfold readyPay recvPay sentPay
  (repeat' split) <;> infer_instance

section Schedule
variable (c : Dev nD)

theorem duty_ready : (pairRd (F := F) m).duties (readyC c) 0 = {()} := by dsimp only [pairRd]; exact if_pos ⟨rfl, rfl, .inl rfl⟩
theorem duty_sent : (pairRd (F := F) m).duties (sentC c) 0 = {()} := by dsimp only [pairRd]; exact if_pos ⟨rfl, rfl, .inr (.inl rfl)⟩
theorem duty_recv : (pairRd (F := F) m).duties (recvC c) 0 = {()} := by dsimp only [pairRd]; exact if_pos ⟨rfl, rfl, .inr (.inr rfl)⟩
/-- After the first round nothing is scheduled. -/
theorem duty_after (g : GSem nD τ sig) : ∀ r, 1 ≤ r → (pairRd (F := F) m).duties g r = ∅ :=
  fun r hr => by dsimp only [pairRd]; exact if_neg fun h => by have := h.1; omega

theorem amount_ready (u : Unit) : (pairRd (F := F) m).amount (readyC c) 0 u = 1 := by dsimp only [pairRd]; exact if_pos rfl
theorem amount_sent (u : Unit) : (pairRd (F := F) m).amount (sentC c) 0 u = credit := by dsimp only [pairRd]; exact if_neg sent_ne_ready
theorem amount_recv (u : Unit) : (pairRd (F := F) m).amount (recvC c) 0 u = credit := by dsimp only [pairRd]; exact if_neg recv_ne_ready

theorem expect_ready : (pairRd (F := F) m).expect (readyC c) 0 = 1 := by
  unfold Schedule.expect Schedule.amountOf; rw [duty_ready, Finset.sum_singleton, amount_ready]
theorem expect_sent : (pairRd (F := F) m).expect (sentC c) 0 = credit := by
  unfold Schedule.expect Schedule.amountOf; rw [duty_sent, Finset.sum_singleton, amount_sent]
theorem expect_recv : (pairRd (F := F) m).expect (recvC c) 0 = credit := by
  unfold Schedule.expect Schedule.amountOf; rw [duty_recv, Finset.sum_singleton, amount_recv]

theorem pay_ready (u : Unit) : (pairRd (F := F) m).payload (readyC c) 0 u = readyPay c := by dsimp only [pairRd]; exact if_pos rfl
theorem pay_sent (u : Unit) : (pairRd (F := F) m).payload (sentC c) 0 u = sentPay c := by
  dsimp only [pairRd]; rw [if_neg sent_ne_ready, if_pos rfl]
theorem pay_recv (u : Unit) : (pairRd (F := F) m).payload (recvC c) 0 u = recvPay m c := by
  dsimp only [pairRd]; rw [if_neg recv_ne_ready, if_neg sent_ne_recv.symm, if_pos rfl]

theorem all_ready : bigSep ((pairRd (F := F) m).duties (readyC c) 0 \ ∅) (fun u => (pairRd (F := F) m).payload (readyC c) 0 u) = readyPay c := by
  rw [duty_ready, Finset.sdiff_empty, bigSep_singleton, pay_ready]
theorem all_sent : bigSep ((pairRd (F := F) m).duties (sentC c) 0 \ ∅) (fun u => (pairRd (F := F) m).payload (sentC c) 0 u) = sentPay c := by
  rw [duty_sent, Finset.sdiff_empty, bigSep_singleton, pay_sent]
theorem all_recv : bigSep ((pairRd (F := F) m).duties (recvC c) 0 \ ∅) (fun u => (pairRd (F := F) m).payload (recvC c) 0 u) = recvPay m c := by
  rw [duty_recv, Finset.sdiff_empty, bigSep_singleton, pay_recv]

end Schedule

/-! ## What a device owes, and the order of the waits -/

/-- At its start a device owes its mate a full receive counter and one ready unit. -/
def owed₀ (c : Dev nD) : CellTallies nD τ sig Unit := tallyAt (recvC (mate c)) () credit + tallyAt (readyC (mate c)) () 1

/-- The levelled indices: the one index at every TensorCore's counters. -/
def lvDom (g : GSem nD τ sig) : Finset Unit := if g.1.2 = .tc then {()} else ∅
/-- The levels: ready below receive, all others below both. -/
def lvOf (g : GSem nD τ sig) (_ : Unit) : ℕ := if g.2 = readySem then 1 else if g.2 = recvSem then 2 else 0

theorem lvDom_other (g : GSem nD τ sig) (h : g.1.2 ≠ .tc) : lvDom g = ∅ := if_neg h
theorem lvDom_tc (c : Dev nD) (sm : SemLoc sig) : lvDom ((c : Thread nD τ), sm) = {()} := if_pos rfl
theorem lvOf_recv (c : Dev nD) : lvOf (recvC c) () = 2 := (if_neg recv_ne_ready).trans (if_pos rfl)
theorem lvOf_ready (c : Dev nD) : lvOf (readyC c) () = 1 := if_pos rfl

/-- A tally at one cell is positive there only. -/
theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- A device owes nothing but its mate's receive and ready counters. -/
theorem owed₀_pos {c : Dev nD} {g : GSem nD τ sig} {u : Unit} (h : 0 < owed₀ c g u) : g = recvC (mate c) ∨ g = readyC (mate c) := by
  unfold owed₀ at h
  rw [Pi.add_apply, Finsupp.add_apply] at h
  rcases Nat.pos_iff_ne_zero.mp h |> fun h => (Nat.eq_zero_or_pos ((tallyAt (recvC (mate c)) () credit : CellTallies nD τ sig Unit) g u)) with h0 | h0
  · rw [h0, Nat.zero_add] at h; exact .inr (tally_pos h)
  · exact .inl (tally_pos h0)

/-- A wait on a counter at level 0 is allowed whatever of the above is still owed. -/
theorem may_low (c : Dev nD) (q : DmaSem sig) (hq : SemLoc.dma q ≠ recvSem) (O : CellTallies nD τ sig Unit)
    (hO : ∀ g u, 0 < O g u → g = recvC (mate c) ∨ g = readyC (mate c)) :
    (levAts lvDom lvOf : sProp 𝕄) ⊢ MayWait (c : Thread nD τ) (.dma q) () O :=
  MayOwe.of_cut (L := lvDom) (lev := lvOf) 0
    (fun p hp => by rw [Finset.mem_singleton.mp hp, lvDom_tc]; exact Finset.mem_singleton_self _)
    (fun g u h => by rcases hO g u h with rfl | rfl <;> exact Finset.mem_singleton_self _)
    (fun p hp => by rw [Finset.mem_singleton.mp hp]; exact ((if_neg (fun h => by cases h)).trans (if_neg hq)).le)
    (fun g u h => by
      rcases hO g u h with rfl | rfl
      · exact (Nat.zero_lt_two).trans_eq (lvOf_recv _).symm
      · exact (Nat.zero_lt_one).trans_eq (lvOf_ready _).symm)

/-- The wait for the mate's ready unit is allowed while the mate's receive counter is owed. -/
theorem may_ready (c : Dev nD) : (levAts lvDom lvOf : sProp 𝕄) ⊢ MayWait (c : Thread nD τ) readySem () (tallyAt (recvC (mate c)) () credit) :=
  MayOwe.of_cut (L := lvDom) (lev := lvOf) 1
    (fun p hp => by rw [Finset.mem_singleton.mp hp, lvDom_tc]; exact Finset.mem_singleton_self _)
    (fun g u h => by rw [tally_pos h]; exact Finset.mem_singleton_self _)
    (fun p hp => by rw [Finset.mem_singleton.mp hp]; exact (lvOf_ready c).le)
    (fun g u h => by rw [tally_pos h]; exact Nat.one_lt_two.trans_eq (lvOf_recv _).symm)

end Cert.PairLoss

end
-- ==== Proof.Pieces.lean ====
/-
# Splitting and joining the buffers, and the rules for one transfer

The assertions about `W` and the landing buffer, split into the pieces the copies take; one rule for a local copy, one
for its wait, and one for the remote copy to the mate.
-/
module

public import proofs.«01_k».proof.Proof.Protocol

@[expose] public section

noncomputable section

namespace Cert.PairLoss

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-- A view's elements at the full share. -/
abbrev pts {sp : Space} {s : Shape} {e : EltTy} (c : Dev nD) (v : Memref sig .tc sp s e) (f : Buf (Elt F) (v.view.loc (c : Thread nD τ))) : sProp 𝕄 :=
  v.view.loc (c : Thread nD τ) ↦[v.view.set]{fullShare} f

/-- The device's block of `W` is its four chunks. -/
theorem w_chunks (c : Dev nD) (f : Buf (Elt F) ((c : Thread nD τ).loc main_arg1)) :
    (((c : Thread nD τ).loc main_arg1) ↦{fullShare} f : sProp 𝕄) = iprop(pts c chunk0 f ∗ pts c chunk1 f ∗ pts c chunk2 f ∗ pts c chunk3 f) := by
  have h := pointsTo_biUnion (Ix := Unit) (Name := ℕ) (U := UU) (Lvl := ℕ) (Val := Elt F) (ℓ := (c : Thread nD τ).loc main_arg1) (q := fullShare) (f := f)
    Finset.univ (fun k => (chunkR k).set) chunk_disjoint
  rw [chunk_cover] at h
  rw [h, bigSep_univ_eq_bigSepL [0, 1, 2, 3] (by decide) (by decide)]
  unfold pts
  rw [chunk_set chunkR0, chunk_set chunkR1, chunk_set chunkR2, chunk_set chunkR3]
  rfl

/-- The landing buffer is its three slots. -/
theorem b_slots (c : Dev nD) (f : Buf (Elt F) ((c : Thread nD τ).loc cc0_scratch1)) :
    (((c : Thread nD τ).loc cc0_scratch1) ↦{fullShare} f : sProp 𝕄) = iprop(pts c slot0 f ∗ pts c slot1 f ∗ pts c slot2 f) := by
  have h := pointsTo_biUnion (Ix := Unit) (Name := ℕ) (U := UU) (Lvl := ℕ) (Val := Elt F) (ℓ := (c : Thread nD τ).loc cc0_scratch1) (q := fullShare) (f := f)
    Finset.univ (fun k => (slotR k).set) slot_disjoint
  rw [slot_cover] at h
  rw [h, bigSep_univ_eq_bigSepL [0, 1, 2] (by decide) (by decide)]
  unfold pts
  rw [slot_set slotR0, slot_set slotR1, slot_set slotR2]
  rfl

/-- The three slots, whatever each holds, are the landing buffer at some contents. -/
theorem b_join (c : Dev nD) (f g h : Buf (Elt F) ((c : Thread nD τ).loc cc0_scratch1)) :
    (iprop(pts c slot0 f ∗ pts c slot1 g ∗ pts c slot2 h) : sProp 𝕄) ⊢ iprop(∃ k : Buf (Elt F) ((c : Thread nD τ).loc cc0_scratch1), ((c : Thread nD τ).loc cc0_scratch1) ↦{fullShare} k) := by
  have hj := pointsTo_biUnion_join (Ix := Unit) (Name := ℕ) (U := UU) (Lvl := ℕ) (Val := Elt F) (ℓ := (c : Thread nD τ).loc cc0_scratch1) (q := fullShare)
    Finset.univ (fun k => (slotR k).set) (fun | 0 => f | 1 => g | 2 => h) f slot_disjoint
  rw [slot_cover, bigSep_univ_eq_bigSepL [0, 1, 2] (by decide) (by decide)] at hj
  unfold pts
  rw [slot_set slotR0, slot_set slotR1, slot_set slotR2]
  refine (show _ ⊢ _ from hj).trans ?_
  iintro ⟨%k, -, H⟩
  iexists k
  iexact H

/-- A local copy: the device gives the source's elements, the destination's and the counter at zero, and holds the
    transfer in flight. -/
theorem wp_copy {sp sp' : Space} {s : Shape} {e : EltTy} (c : Dev nD) (src : Memref sig .tc sp s e) (dst : Memref sig .tc sp' s e) (q : DmaSem sig)
    (hs : 0 < s.numel)
    {hsrc : src.view.WordExact} {hdst : (DmaTarget.here (nD := nD) (τ := τ) (p := (Dev.tc c : Thread nD τ).2) dst).view.WordExact}
    {hsem : DmaTarget.Typed (nD := nD) (τ := τ) (p := (Dev.tc c : Thread nD τ).2) sp (.dma q) (.here dst)}
    {α : Type} {Q : α → sProp 𝕄} {k : PUnit → Prog (TpuEff nD τ sig (Elt F) Λ₀ .tc) α}
    (fs : Buf (Elt F) (src.view.loc (c : Thread nD τ))) (fd : Buf (Elt F) (dst.view.loc (c : Thread nD τ))) :
    iprop(pts c src fs ∗ pts c dst fd ∗ semVal ((c : Thread nD τ), SemLoc.dma q) 0)
      ⊢ iprop((Flight cntE (c : Thread nD τ) (.dma q) () dst.view.dmaCredit
            iprop(pts c dst (dst.view.write (Elt F) fd (ReadAs.same.apply (src.view.read (Elt F) fs)) Finset.univ) ∗ pts c src fs)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.here dst) (.dma q) hsrc hdst hsem) k) Q) :=
  Transfers.wp_dmaLocal cntE 𝒱₀ (c : Thread nD τ) none () dst.view.dmaCredit rfl (View.dmaCredit_pos _ hs) (Finset.Subset.refl _)

/-- The wait for a local copy, the device still owing `O`: the delivery and the counter at zero. -/
theorem wp_arrive {sp sp' : Space} {s : Shape} {e : EltTy} (c : Dev nD) (src : Memref sig .tc sp s e) (dst : Memref sig .tc sp' s e) (q : DmaSem sig)
    {hsrc : src.view.WordExact} {hdst : dst.view.WordExact}
    {α : Type} {Q : α → sProp 𝕄} {k : PUnit → Prog (TpuEff nD τ sig (Elt F) Λ₀ .tc) α} {D : sProp 𝕄} (W : Waits sig Unit)
    (hq : SemLoc.dma q ≠ recvSem) :
    iprop(Flight cntE (c : Thread nD τ) (.dma q) () dst.view.dmaCredit D ∗ owes (c : Thread nD τ) (tallyAt (recvC (mate c)) () credit) W ∗ levAts lvDom lvOf)
      ⊢ iprop(((D ∗ semVal ((c : Thread nD τ), SemLoc.dma q) 0 ∗ owes (c : Thread nD τ) (tallyAt (recvC (mate c)) () credit) (insert (SemLoc.dma q, ()) W))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 q src dst hsrc hdst) k) Q) := by
  refine BIBase.Entails.trans ?_ (Transfers.wp_waitLocalO cntE 𝒱₀ (c : Thread nD τ) none () rfl)
  iintro ⟨HF, HO, Hl⟩
  isplitl [HF]; · iexact HF
  isplitl [HO]; · iexact HO
  iapply (may_low c q hq _ fun g u h => .inl (tally_pos h)); iexact Hl

variable (K : Dev nD × Fin 3 → ℕ)

/-- The remote copy of the statistics buffer into the mate's landing buffer: it discharges what is owed to the mate's
    receive counter, and the device keeps the claim on its own sent counter. -/
theorem wp_send (c n : Dev nD) (hn : n = mate c) {hsc : (theirB : Memref sig (Dev.tc n : Thread nD τ).2.kind .vmem S256x8 .f32).view.ref.isScScratch = false}
    {hsrc : mineB.view.WordExact} {hdst : (theirB : Memref sig .tc .vmem S256x8 .f32).view.WordExact}
    {hsem : DmaTarget.Typed .vmem recvSem (.remote (Dev.tc n : Thread nD τ) (theirB : Memref sig .tc .vmem S256x8 .f32) sentSem hsc)}
    {α : Type} {Q : α → sProp 𝕄} {k : PUnit → Prog (TpuEff nD τ sig (Elt F) Λ₀ .tc) α}
    (fs : Buf (Elt F) (mineB.view.loc (c : Thread nD τ))) (hfs : Holds m c fs) (fd : Buf (Elt F) (theirB.view.loc (mate c : Thread nD τ))) (W : Waits sig Unit) :
    iprop(cellInv pairE (pairRd m) (K (c, 1)) (sentC c) ∗ cellInv pairE (pairRd m) (K (mate c, 2)) (recvC (mate c))
        ∗ minePts c fs ∗ theirPts (mate c) fd ∗ owes (c : Thread nD τ) (tallyAt (recvC (mate c)) () credit) W
        ∗ dutyTok pairE (sentC c) 0 () ∗ reached pairE (sentC c) 0 ∗ dutyTok pairE (recvC (mate c)) 0 () ∗ reached pairE (recvC (mate c)) 0)
      ⊢ iprop(((cred (tallyAt (sentC c) () credit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mineB (.remote (Dev.tc n : Thread nD τ) theirB sentSem hsc) recvSem hsrc hdst hsem) k) Q) := by
  subst hn
  unfold minePts theirPts
  exact Rounds.wp_send_pointsTo 𝒱₀ pairE (pairRd m) (c : Thread nD τ) none (κ₁ := K (c, 1)) (κ₂ := K (mate c, 2))
    (r₁ := 0) (r₂ := 0) (d₁ := ()) (d₂ := ()) (fd := fd)
    (by rw [duty_sent]; exact Finset.mem_singleton_self _) (by rw [duty_recv]; exact Finset.mem_singleton_self _)
    () () credit rfl (amount_sent m c ()) (amount_recv m (mate c) ()) 0 (by rw [zero_add]) (W := W)
    (by rw [pay_sent]; unfold sentPay minePts; iintro H; iexists fs; iexact H)
    (by
      rw [pay_recv]; unfold recvPay theirPts; rw [mate_mate]
      iintro H
      iexists fs
      isplitr; · ipureintro; exact hfs
      rw [show (theirB : Memref sig .tc .vmem S256x8 .f32).view.write (Elt F) fd (mineB.view.read (Elt F) fs) Finset.univ = fs from by
        show (View.whole cc0_scratch4).write (Elt F) fd ((View.whole cc0_scratch3).read (Elt F) fs) Finset.univ = fs
        rw [View.read_whole]; exact View.write_whole_univ _ _ _]
      iexact H)

end Cert.PairLoss

end
-- ==== Proof.Body.lean ====
/-
# The kernel's body on one device

From the protocol's start, the arguments' buffers and the scratch buffers, the body runs to the end with the result
block written, the arguments as they were, and every counter it used at zero.
-/
module

public import proofs.«01_k».proof.Proof.Pieces

@[expose] public section

noncomputable section

namespace Cert.PairLoss

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 3 → ℕ)

/-- The invariants a device uses: of its own three counters, and of its mate's ready and receive counters. -/
def invs (c : Dev nD) : sProp 𝕄 :=
  iprop(cellInv pairE (pairRd m) (K (c, 0)) (readyC c) ∗ cellInv pairE (pairRd m) (K (c, 1)) (sentC c) ∗ cellInv pairE (pairRd m) (K (c, 2)) (recvC c)
    ∗ cellInv pairE (pairRd m) (K (mate c, 0)) (readyC (mate c)) ∗ cellInv pairE (pairRd m) (K (mate c, 2)) (recvC (mate c)))

instance invs_persistent (c : Dev nD) : BI.Persistent (invs m K c) := by unfold invs; infer_instance

/-- The device's part of the protocol at the start: its positions at its three counters, what rounds are known reached,
    and the tokens of the three additions it makes. -/
def ghost (c : Dev nD) : sProp 𝕄 :=
  iprop(invs m K c
    ∗ (atPos pairE (readyC c) 0 ∅ 0 ∗ atPos pairE (sentC c) 0 ∅ 0 ∗ atPos pairE (recvC c) 0 ∅ 0)
    ∗ (reached pairE (readyC (mate c)) 0 ∗ reached pairE (recvC (mate c)) 0 ∗ reached pairE (sentC c) 0 ∗ reached pairE (recvC c) 0)
    ∗ dutyTok pairE (readyC (mate c)) 0 () ∗ dutyTok pairE (recvC (mate c)) 0 () ∗ dutyTok pairE (sentC c) 0 ())

/-- The counters of the local copies, all at zero. -/
def localSems (c : Dev nD) : sProp 𝕄 :=
  iprop(semVal ((c : Thread nD τ), SemLoc.dma xSem) 0 ∗ semVal ((c : Thread nD τ), SemLoc.dma tSem) 0 ∗ semVal ((c : Thread nD τ), SemLoc.dma wSem0) 0
    ∗ semVal ((c : Thread nD τ), SemLoc.dma wSem1) 0 ∗ semVal ((c : Thread nD τ), SemLoc.dma wSem2) 0)

/-- The arguments' buffers at the launch contents. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))

/-- The five scratch buffers, each at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What a device has before the body, but for the ghost state's names: the protocol's start, the credit for its ready and receive
    counters, the levels, the local counters and the arguments. -/
def begin_ (c : Dev nD) : sProp 𝕄 :=
  iprop(ghost m K c ∗ cred (tallyAt (readyC c) () 1) ∗ cred (tallyAt (recvC c) () credit) ∗ levAts lvDom lvOf ∗ localSems c ∗ args m c)

/-- What a device has after the body: all its counters at zero, the arguments and the scratch buffers. -/
def end_ (c : Dev nD) : sProp 𝕄 :=
  iprop((semVal (readyC c) 0 ∗ semVal (sentC c) 0 ∗ semVal (recvC c) 0) ∗ localSems c ∗ args m c ∗ scratch c)

/-- The rows' argument, as the copy holds it, is the whole buffer. -/
theorem x_whole (c : Dev nD) : pts c xSrc (m ((c : Thread nD τ).loc main_arg0))
    = (((c : Thread nD τ).loc main_arg0) ↦{fullShare} m ((c : Thread nD τ).loc main_arg0) : sProp 𝕄) := by
  unfold pts; rw [show (xSrc : Memref sig .tc .hbm S256x512 .f32).view.set = Finset.univ from View.set_whole _]

/-- The labels' argument, as the copy holds it, is the whole buffer. -/
theorem t_whole (c : Dev nD) : pts c tSrc (m ((c : Thread nD τ).loc main_arg2))
    = (((c : Thread nD τ).loc main_arg2) ↦{fullShare} m ((c : Thread nD τ).loc main_arg2) : sProp 𝕄) := by
  unfold pts; rw [show (tSrc : Memref sig .tc .hbm S256 .i32).view.set = Finset.univ from View.set_whole _]

/-- After their copy the rows' buffer holds the rows. -/
theorem x_landed (c : Dev nD) (f : Buf (Elt F) ((c : Thread nD τ).loc cc0_scratch0)) :
    pts c xB (xB.view.write (Elt F) f (ReadAs.same.apply (xSrc.view.read (Elt F) (m ((c : Thread nD τ).loc main_arg0)))) Finset.univ)
      = (((c : Thread nD τ).loc cc0_scratch0) ↦{fullShare} xAt m c : sProp 𝕄) := by
  unfold pts
  rw [show (xB : Memref sig .tc .vmem S256x512 .f32).view.set = Finset.univ from View.set_whole _,
    show xB.view.write (Elt F) f (ReadAs.same.apply (xSrc.view.read (Elt F) (m ((c : Thread nD τ).loc main_arg0)))) Finset.univ = xAt m c from by
      show (View.whole cc0_scratch0).write (Elt F) f ((View.whole main_arg0).read (Elt F) _) Finset.univ = _
      rw [View.read_whole]; exact View.write_whole_univ _ _ _]

/-- After their copy the labels' buffer holds the labels. -/
theorem t_landed (c : Dev nD) (f : Buf (Elt F) ((c : Thread nD τ).loc cc0_scratch2)) :
    pts c tB (tB.view.write (Elt F) f (ReadAs.same.apply (tSrc.view.read (Elt F) (m ((c : Thread nD τ).loc main_arg2)))) Finset.univ)
      = (((c : Thread nD τ).loc cc0_scratch2) ↦{fullShare} tAt m c : sProp 𝕄) := by
  unfold pts
  rw [show (tB : Memref sig .tc .vmem S256 .i32).view.set = Finset.univ from View.set_whole _,
    show tB.view.write (Elt F) f (ReadAs.same.apply (tSrc.view.read (Elt F) (m ((c : Thread nD τ).loc main_arg2)))) Finset.univ = tAt m c from by
      show (View.whole cc0_scratch2).write (Elt F) f ((View.whole main_arg2).read (Elt F) _) Finset.univ = _
      rw [View.read_whole]; exact View.write_whole_univ _ _ _]

set_option maxHeartbeats 4000000 in
set_option maxRecDepth 8000 in
/-- The body of the kernel on device `c`, from its start to its end: the result block is written with the loss. -/
theorem sound_body (c : Dev nD) (W : Waits sig Unit) (g : Buf (Elt F) ((c : Thread nD τ).loc cc0_stg0_0)) (Kt : PUnit → sProp 𝕄) :
    iprop((begin_ m K c ∗ scratch c ∗ owes (c : Thread nD τ) (owed₀ c) W ∗ (((c : Thread nD τ).loc cc0_stg0_0) ↦{fullShare} g))
        ∗ ((end_ m c ∗ (∃ W', owes (c : Thread nD τ) 0 W') ∗ (((c : Thread nD τ).loc cc0_stg0_0) ↦{fullShare} lossAt m c)) -∗ Kt ⟨⟩))
      ⊢ wp frame (wpE (defs₀ (F := F)) 𝒱₀ c none) Set.univ
          (cc0_body (Memref.whole main_arg0) (Memref.isWhole_whole _) (Memref.whole main_arg1) (Memref.isWhole_whole _) (Memref.whole main_arg2) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scratch7 cc0_scratch8 cc0_scratch9) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold begin_ ghost invs localSems args scratch
  iintro ⟨⟨⟨⟨⟨#HiR, #HiS, #HiV, #HiRm, #HiVm⟩, ⟨HaR, HaS, HaV⟩, ⟨#HrRm, #HrVm, #HrS, #HrV⟩, HtRm, HtVm, HtS⟩, HcR, HcV, #Hlev, ⟨Hzx, Hzt, Hz0, Hz1, Hz2⟩, ⟨Hx, Hw, Ht⟩⟩,
      ⟨⟨%f0, Hb0⟩, ⟨%f1, Hb1⟩, ⟨%f2, Hb2⟩, ⟨%f3, Hb3⟩, ⟨%f4, Hb4⟩⟩, HO, Hout⟩, Hk⟩
  -- the ready unit to the mate, with this device's landing buffer
  simp only [signal_target c, owed₀]
  iapply (Rounds.wp_signal 𝒱₀ pairE (pairRd m) (c : Thread nD τ) none (dst := (mate c : Thread nD τ)) (κ := K (mate c, 0))
      (by rw [duty_ready]; exact Finset.mem_singleton_self _) ((amount_ready m (mate c) ()).trans (by decide)) () (tallyAt (recvC (mate c)) () credit) rfl)
    $$ [HO HtRm Hb4]
  · isplitr; · iexact HiRm
    isplitl [HO]; · iexact HO
    isplitl [HtRm]; · iexact HtRm
    isplitl [Hb4]
    · rw [pay_ready]; unfold readyPay; rw [mate_mate]
      isplitl [Hb4]; · iexists f4; rw [theirPts_eq]; iexact Hb4
      iexact HrV
    · iexact HrRm
  iintro HO
  -- the rows, the labels and the first two chunks of `W` set out
  ihave Hw' := (Entails.of_eq (w_chunks c (m ((c : Thread nD τ).loc main_arg1)))) $$ Hw
  icases Hw' with ⟨Hw0, Hw1, Hw2, Hw3⟩
  ihave Hb1' := (Entails.of_eq (b_slots c f1)) $$ Hb1
  icases Hb1' with ⟨Hs0, Hs1, Hs2⟩
  iapply (wp_copy c xSrc xB xSem (by decide) (m ((c : Thread nD τ).loc main_arg0)) f0) $$ [Hx Hb0 Hzx]
  · unfold pts; rw [show (xSrc : Memref sig .tc .hbm S256x512 .f32).view.set = Finset.univ from View.set_whole _, show (xB : Memref sig .tc .vmem S256x512 .f32).view.set = Finset.univ from View.set_whole _]
    isplitl [Hx]; · iexact Hx
    isplitl [Hb0]; · iexact Hb0
    iexact Hzx
  iintro HFx
  iapply (wp_copy c tSrc tB tSem (by decide) (m ((c : Thread nD τ).loc main_arg2)) f2) $$ [Ht Hb2 Hzt]
  · unfold pts; rw [show (tSrc : Memref sig .tc .hbm S256 .i32).view.set = Finset.univ from View.set_whole _, show (tB : Memref sig .tc .vmem S256 .i32).view.set = Finset.univ from View.set_whole _]
    isplitl [Ht]; · iexact Ht
    isplitl [Hb2]; · iexact Hb2
    iexact Hzt
  iintro HFt
  iapply (wp_copy c chunk0 slot0 wSem0 (by decide) (m ((c : Thread nD τ).loc main_arg1)) f1) $$ [Hw0 Hs0 Hz0]
  · isplitl [Hw0]; · iexact Hw0
    isplitl [Hs0]; · iexact Hs0
    iexact Hz0
  iintro HF0
  iapply (wp_copy c chunk1 slot1 wSem1 (by decide) (m ((c : Thread nD τ).loc main_arg1)) f1) $$ [Hw1 Hs1 Hz1]
  · isplitl [Hw1]; · iexact Hw1
    isplitl [Hs1]; · iexact Hs1
    iexact Hz1
  iintro HF1
  -- the labels arrive
  iapply (wp_arrive c tSrc tB tSem _ (by decide)) $$ [HFt HO]
  · isplitl [HFt]; · iexact HFt
    isplitl [HO]; · iexact HO
    iexact Hlev
  iintro ⟨⟨Hb2', Ht⟩, Hzt, HO⟩
  ihave Hb2 := (Entails.of_eq (t_landed m c f2)) $$ Hb2'
  iapply (wp_load 𝒱₀ (c : Thread nD τ) none Set.univ (m := tB) (Finset.subset_univ _)) $$ Hb2; iintro Hb2
  rw [t_read]
  -- the rows arrive
  iapply (wp_arrive c xSrc xB xSem _ (by decide)) $$ [HFx HO]
  · isplitl [HFx]; · iexact HFx
    isplitl [HO]; · iexact HO
    iexact Hlev
  iintro ⟨⟨Hb0', Hx⟩, Hzx, HO⟩
  ihave Hb0 := (Entails.of_eq (x_landed m c f0)) $$ Hb0'
  iapply (wp_load 𝒱₀ (c : Thread nD τ) none Set.univ (m := xB) (Finset.subset_univ _)) $$ Hb0; iintro Hb0
  rw [x_read]
  -- chunk 0 arrives, chunk 2 sets out, chunk 0 is read
  iapply (wp_arrive c chunk0 slot0 wSem0 _ (by decide)) $$ [HF0 HO]
  · isplitl [HF0]; · iexact HF0
    isplitl [HO]; · iexact HO
    iexact Hlev
  iintro ⟨⟨Hs0, Hw0⟩, Hz0, HO⟩
  iapply (wp_copy c chunk2 slot2 wSem2 (by decide) (m ((c : Thread nD τ).loc main_arg1)) f1) $$ [Hw2 Hs2 Hz2]
  · isplitl [Hw2]; · iexact Hw2
    isplitl [Hs2]; · iexact Hs2
    iexact Hz2
  iintro HF2
  iapply (wp_load 𝒱₀ (c : Thread nD τ) none Set.univ (m := wB) (S := slot0.view.set) (by rw [slot_set]; exact slot_load_subset _)) $$ Hs0; iintro Hs0
  rw [slot_read0]
  -- chunk 1 arrives, chunk 3 sets out into slot 0, chunk 1 is read
  iapply (wp_arrive c chunk1 slot1 wSem1 _ (by decide)) $$ [HF1 HO]
  · isplitl [HF1]; · iexact HF1
    isplitl [HO]; · iexact HO
    iexact Hlev
  iintro ⟨⟨Hs1, Hw1⟩, Hz1, HO⟩
  iapply (wp_copy c chunk3 slot0 wSem0 (by decide) (m ((c : Thread nD τ).loc main_arg1)) _) $$ [Hw3 Hs0 Hz0]
  · isplitl [Hw3]; · iexact Hw3
    isplitl [Hs0]; · iexact Hs0
    iexact Hz0
  iintro HF3
  iapply (wp_load 𝒱₀ (c : Thread nD τ) none Set.univ (m := wB) (S := slot1.view.set) (by rw [slot_set]; exact slot_load_subset _)) $$ Hs1; iintro Hs1
  rw [slot_read1]
  -- chunk 2 arrives and is read
  iapply (wp_arrive c chunk2 slot2 wSem2 _ (by decide)) $$ [HF2 HO]
  · isplitl [HF2]; · iexact HF2
    isplitl [HO]; · iexact HO
    iexact Hlev
  iintro ⟨⟨Hs2, Hw2⟩, Hz2, HO⟩
  iapply (wp_load 𝒱₀ (c : Thread nD τ) none Set.univ (m := wB) (S := slot2.view.set) (by rw [slot_set]; exact slot_load_subset _)) $$ Hs2; iintro Hs2
  rw [slot_read2]
  -- chunk 3 arrives and is read
  iapply (wp_arrive c chunk3 slot0 wSem0 _ (by decide)) $$ [HF3 HO]
  · isplitl [HF3]; · iexact HF3
    isplitl [HO]; · iexact HO
    iexact Hlev
  iintro ⟨⟨Hs0, Hw3⟩, Hz0, HO⟩
  iapply (wp_load 𝒱₀ (c : Thread nD τ) none Set.univ (m := wB) (S := slot0.view.set) (by rw [slot_set]; exact slot_load_subset _)) $$ Hs0; iintro Hs0
  rw [slot_read0]
  -- the three columns are stored
  iapply (wp_load 𝒱₀ (c : Thread nD τ) none Set.univ (m := mineB) (Finset.subset_univ _)) $$ Hb3; iintro Hb3
  iapply (wp_store 𝒱₀ (c : Thread nD τ) none Set.univ (m := mineB) (r := colR0) (Mk := Finset.univ) (Finset.subset_univ _)) $$ Hb3; iintro Hb3
  iapply (wp_load 𝒱₀ (c : Thread nD τ) none Set.univ (m := mineB) (Finset.subset_univ _)) $$ Hb3; iintro Hb3
  iapply (wp_store 𝒱₀ (c : Thread nD τ) none Set.univ (m := mineB) (r := colR1) (Mk := Finset.univ) (Finset.subset_univ _)) $$ Hb3; iintro Hb3
  iapply (wp_load 𝒱₀ (c : Thread nD τ) none Set.univ (m := mineB) (Finset.subset_univ _)) $$ Hb3; iintro Hb3
  iapply (wp_store 𝒱₀ (c : Thread nD τ) none Set.univ (m := mineB) (r := colR2) (Mk := Finset.univ) (Finset.subset_univ _)) $$ Hb3; iintro Hb3
  ihave Hmine := (Entails.of_eq (minePts_eq c _).symm) $$ Hb3
  -- the mate is ready: its landing buffer comes with the unit
  iapply (Rounds.wp_wait_rest_token 𝒱₀ pairE (pairRd m) (c : Thread nD τ) none (κ := K (c, 0))
      (wpE_semWait_eq 𝒱₀ (c : Thread nD τ) none Set.univ) (Set.mem_univ _) () (O := tallyAt (recvC (mate c)) () credit) (R := 0) (m := 0) (T := ∅)
      (by rw [expect_ready]; decide)) $$ [HcR HO HaR]
  · isplitr; · iexact HiR
    isplitl [HcR]; · iexact HcR
    isplitl [HO]; · iexact HO
    isplitr; · iapply (may_ready c); iexact Hlev
    iexact HaR
  iintro ⟨HO, HaR, -, Hp⟩
  ihave Hp' := (Entails.of_eq (all_ready m c)) $$ Hp
  unfold readyPay
  icases Hp' with ⟨⟨%fn, Hfn⟩, -⟩
  -- the statistics go to the mate
  iapply (wp_send m K c _ (copy_target c) _ (holds_stores m c f3) fn _) $$ [Hmine Hfn HO HtS HtVm]
  · isplitr; · iexact HiS
    isplitr; · iexact HiVm
    isplitl [Hmine]; · iexact Hmine
    isplitl [Hfn]; · iexact Hfn
    isplitl [HO]; · iexact HO
    isplitl [HtS]; · iexact HtS
    isplitr; · iexact HrS
    isplitl [HtVm]; · iexact HtVm
    iexact HrVm
  iintro ⟨HcS, HO⟩
  iapply (Rounds.wp_wait_rest_token 𝒱₀ pairE (pairRd m) (c : Thread nD τ) none (κ := K (c, 1))
      (wpE_waitDma2_eq 𝒱₀ (c : Thread nD τ) none Set.univ) (Set.mem_univ _) () (O := 0) (R := 0) (m := 0) (T := ∅)
      (by rw [Nat.zero_add, expect_sent])) $$ [HcS HO HaS]
  · isplitr; · iexact HiS
    isplitl [HcS]; · iexact HcS
    isplitl [HO]; · iexact HO
    isplitr; · rw [MayWait_zero]; iempintro
    iexact HaS
  iintro ⟨HO, HaS, -, Hp⟩
  ihave Hmine := (Entails.of_eq (all_sent m c)) $$ Hp
  iapply (Rounds.wp_wait_rest_token 𝒱₀ pairE (pairRd m) (c : Thread nD τ) none (κ := K (c, 2))
      (wpE_waitDma2_eq 𝒱₀ (c : Thread nD τ) none Set.univ) (Set.mem_univ _) () (O := 0) (R := 0) (m := 0) (T := ∅)
      (by rw [Nat.zero_add, expect_recv])) $$ [HcV HO HaV]
  · isplitr; · iexact HiV
    isplitl [HcV]; · iexact HcV
    isplitl [HO]; · iexact HO
    isplitr; · rw [MayWait_zero]; iempintro
    iexact HaV
  iintro ⟨HO, HaV, -, Hp⟩
  ihave Htheir := (Entails.of_eq (all_recv m c)) $$ Hp
  unfold sentPay recvPay
  icases Htheir with ⟨%ft, %hft, Htheir⟩
  ihave Ht' := (Entails.of_eq (theirPts_eq c ft)) $$ Htheir
  icases Hmine with ⟨%fm, Hmine⟩
  ihave Hm' := (Entails.of_eq (minePts_eq c fm)) $$ Hmine
  -- the three counters are closed at zero
  imod (Rounds.cell_close pairE (pairRd m) (Set.mem_univ (K (c, 0))) (fun h => h) (R := 0 + 1) (duty_after m (readyC c))) $$ [HaR] with HzR
  · isplitr; · iexact HiR
    iexact HaR
  imod (Rounds.cell_close pairE (pairRd m) (Set.mem_univ (K (c, 1))) (fun h => h) (R := 0 + 1) (duty_after m (sentC c))) $$ [HaS] with HzS
  · isplitr; · iexact HiS
    iexact HaS
  imod (Rounds.cell_close pairE (pairRd m) (Set.mem_univ (K (c, 2))) (fun h => h) (R := 0 + 1) (duty_after m (recvC c))) $$ [HaV] with HzV
  · isplitr; · iexact HiV
    iexact HaV
  -- the mate's statistics are read, the result block written
  obtain ⟨h0, h1, h2⟩ := hft
  iapply (wp_load 𝒱₀ (c : Thread nD τ) none Set.univ (m := theirB) (Finset.subset_univ _)) $$ Ht'; iintro Ht'
  rw [h0]
  iapply (wp_load 𝒱₀ (c : Thread nD τ) none Set.univ (m := theirB) (Finset.subset_univ _)) $$ Ht'; iintro Ht'
  rw [h1]
  iapply (wp_load 𝒱₀ (c : Thread nD τ) none Set.univ (m := theirB) (Finset.subset_univ _)) $$ Ht'; iintro Ht'
  rw [h2]
  iapply (wp_load 𝒱₀ (c : Thread nD τ) none Set.univ (m := outB) (Finset.subset_univ _)) $$ Hout; iintro Hout
  iapply (wp_store 𝒱₀ (c : Thread nD τ) none Set.univ (m := outB) (r := Rect.unit (s := S256) ![0] S256.size inb_S256_S256_0) (Mk := Finset.univ) (Finset.subset_univ _)) $$ Hout; iintro Hout
  rw [out_write, wp_ret]; imodintro
  iapply Hk
  unfold end_ localSems args scratch
  isplitr [HO Hout]
  · isplitl [HzR HzS HzV]
    · isplitl [HzR]; · iexact HzR
      isplitl [HzS] <;> iassumption
    isplitl [Hzx Hzt Hz0 Hz1 Hz2]
    · isplitl [Hzx]; · iexact Hzx
      isplitl [Hzt]; · iexact Hzt
      isplitl [Hz0]; · iexact Hz0
      isplitl [Hz1] <;> iassumption
    isplitl [Hx Hw0 Hw1 Hw2 Hw3 Ht]
    · isplitl [Hx]; · iapply (Entails.of_eq (x_whole m c)); iexact Hx
      isplitl [Hw0 Hw1 Hw2 Hw3]
      · iapply (Entails.of_eq (w_chunks c (m ((c : Thread nD τ).loc main_arg1))).symm)
        isplitl [Hw0]; · iexact Hw0
        isplitl [Hw1]; · iexact Hw1
        isplitl [Hw2] <;> iassumption
      iapply (Entails.of_eq (t_whole m c)); iexact Ht
    isplitl [Hb0]; · iexists _; iexact Hb0
    isplitl [Hs0 Hs1 Hs2]
    · iapply (b_join c)
      isplitl [Hs0]; · iexact Hs0
      isplitl [Hs1] <;> iassumption
    isplitl [Hb2]; · iexists _; iexact Hb2
    isplitl [Hm']; · iexists _; iexact Hm'
    iexists _; iexact Ht'
  isplitl [HO]; · iexists _; iexact HO
  iexact Hout

end Cert.PairLoss

end
-- ==== Proof.Deal.lean ====
/-
# Handing out the protocol at the launch

From the counters at zero and the launch's ghost element every device gets its part of the protocol: the invariants of
the shared counters, its positions at its own three, and the tokens of the three additions it makes. The ready and the
receive tokens of a counter go to the mate of the device the counter belongs to.
-/
module

public import proofs.«01_k».proof.Proof.Body

@[expose] public section

noncomputable section

namespace Cert.PairLoss

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The shared counters, listed -/

/-- A device's three shared counters: ready, sent, received. -/
abbrev sharedSem : Fin 3 → SemLoc sig := fun | 0 => readySem | 1 => sentSem | 2 => recvSem
/-- The shared counters of all devices. -/
abbrev sharedC (i : Dev nD × Fin 3) : GSem nD τ sig := ((i.1 : Thread nD τ), sharedSem i.2)

theorem sharedSem_injective : Function.Injective sharedSem := by
  intro a b h
  fin_cases a <;> fin_cases b <;> first | rfl | exact absurd h (by decide)

theorem sharedC_injective : Function.Injective (sharedC : Dev nD × Fin 3 → GSem nD τ sig) := by
  rintro ⟨a, i⟩ ⟨b, j⟩ h
  obtain rfl : a = b := congrArg (fun g : GSem nD τ sig => g.1.1) h
  obtain rfl : i = j := sharedSem_injective (congrArg Prod.snd h)
  rfl

/-- The shared counters as a set. -/
def sharedCells : Finset (GSem nD τ sig) := Finset.univ.map ⟨sharedC, sharedC_injective⟩
/-- The tokens of their one round. -/
def sharedToks : Finset (GSem nD τ sig × ℕ × Unit) :=
  Finset.univ.map ⟨fun i : Dev nD × Fin 3 => (sharedC i, 0, ()), fun _ _ h => sharedC_injective (congrArg Prod.fst h)⟩

/-- The ghost element the launch starts from: the pipeline's rounds, the pair's rounds, no local transfer. -/
def ghost₀ : UU := (initOf (Pipeline.cells cfgs cellOf_inj) (Pipeline.launchToks cfgs cellOf_inj), (initOf sharedCells sharedToks, 1))

/-! ## One device's share before the invariants are made -/

/-- A conjunction over the three shared counters, written out. -/
theorem over_three (Φ : Fin 3 → sProp 𝕄) : bigSep Finset.univ Φ = iprop(Φ 0 ∗ Φ 1 ∗ Φ 2) :=
  bigSep_univ_eq_bigSepL [0, 1, 2] (by decide) (by decide) Φ

/-- The tokens of a device's own counters. -/
def ownToks (c : Dev nD) : sProp 𝕄 := iprop(dutyTok pairE (readyC c) 0 () ∗ dutyTok pairE (sentC c) 0 () ∗ dutyTok pairE (recvC c) 0 ())
/-- The tokens of the additions a device makes. -/
def useToks (c : Dev nD) : sProp 𝕄 := iprop(dutyTok pairE (readyC (mate c)) 0 () ∗ dutyTok pairE (recvC (mate c)) 0 () ∗ dutyTok pairE (sentC c) 0 ())
/-- Positions at, and first rounds reached of, a device's own counters. -/
def ownPos (c : Dev nD) : sProp 𝕄 := bigSep Finset.univ fun k : Fin 3 => iprop(atPos pairE (sharedC (c, k)) 0 ∅ 0 ∗ reached pairE (sharedC (c, k)) 0)

/-- A device's share of the ghost element. -/
def share₀ (c : Dev nD) : sProp 𝕄 :=
  iprop((bigSep Finset.univ fun k : Fin 3 => roundState pairE (pairRd m) (sharedC (c, k)) 0) ∗ ownPos c ∗ ownToks c)

/-- What a device has once the invariants are made: the protocol's start, and its local counters. -/
def share₁ (c : Dev nD) : sProp 𝕄 := iprop((∃ K, ghost m K c) ∗ localSems c)

/-- The pair's part of the ghost element is dealt out to the devices. -/
theorem deal : BI.own (pairE (initOf sharedCells sharedToks)) ⊢ (|==> bigSep Finset.univ (share₀ m) : sProp 𝕄) := by
  have per_cell (Φ : GSem nD τ sig → sProp 𝕄) : bigSep sharedCells Φ = bigSep Finset.univ fun c : Dev nD => bigSep Finset.univ fun k : Fin 3 => Φ (sharedC (c, k)) := by
    unfold sharedCells; rw [bigSep_map, bigSep_univ_prod]; rfl
  have per_tok : bigSep sharedToks (fun x => (dutyTok pairE x.1 x.2.1 x.2.2 : sProp 𝕄)) = bigSep Finset.univ fun c : Dev nD => ownToks c := by
    unfold sharedToks; rw [bigSep_map, bigSep_univ_prod]
    exact bigSep_congr fun c _ => by unfold ownToks; rw [over_three]; rfl
  iintro H
  imod (Rounds.fund pairE (pairRd m) sharedCells sharedToks) $$ H with ⟨Hst, Hr, Hat, Htok⟩
  imodintro
  ihave Hst' := (Entails.of_eq (per_cell fun g => roundState pairE (pairRd m) g 0)) $$ Hst
  ihave Hat' := (Entails.of_eq (per_cell fun g => atPos pairE g 0 ∅ 0)) $$ Hat
  ihave Hr' := (Entails.of_eq (per_cell fun g => reached pairE g 0)) $$ Hr
  ihave Htok' := (Entails.of_eq per_tok) $$ Htok
  unfold share₀ ownPos; simp only [bigSep_sep']
  isplitl [Hst']; · iexact Hst'
  isplitl [Hat' Hr']
  · isplitl [Hat'] <;> iassumption
  iexact Htok'

/-! ## The counters the launch hands over -/

/-- The kernel's own counters: the five of the local copies, then sent and received. -/
abbrev ownSem : Fin 7 → SemLoc sig := fun
  | 0 => .dma xSem | 1 => .dma tSem | 2 => .dma wSem0 | 3 => .dma wSem1 | 4 => .dma wSem2 | 5 => sentSem | 6 => recvSem

theorem ownSem_facts : Pipeline.OwnSemFacts cfg0.spec ownSem := by decide

/-- The kernel's own counters at zero, written out. -/
theorem own_zero (c : Dev nD) : (Pipeline.ownSems0 (Ix := Unit) (Name := ℕ) (U := UU) (Lvl := ℕ) (Val := Elt F) (τ := τ) ownSem c : sProp 𝕄)
    = iprop(semVal ((c : Thread nD τ), SemLoc.dma xSem) 0 ∗ semVal ((c : Thread nD τ), SemLoc.dma tSem) 0 ∗ semVal ((c : Thread nD τ), SemLoc.dma wSem0) 0
      ∗ semVal ((c : Thread nD τ), SemLoc.dma wSem1) 0 ∗ semVal ((c : Thread nD τ), SemLoc.dma wSem2) 0 ∗ semVal (sentC c) 0 ∗ semVal (recvC c) 0) := by
  rw [Pipeline.ownSems0_eq_of_list c ownSem [0, 1, 2, 3, 4, 5, 6] (by decide) (by decide)]; rfl

/-- The one counter that outlives the kernel is the ready counter. -/
theorem outer_zero (c : Dev nD) : (unscopedSems0 c : sProp 𝕄) = semVal (readyC c) 0 := by
  unfold unscopedSems0; rw [bigSep_eq_bigSepL_of_eq [readySem] (by decide) (by decide)]; rfl

/-- All these counters, sorted into the shared and the local ones. -/
theorem sort_zero (c : Dev nD) :
    iprop(Pipeline.ownSems0 (Ix := Unit) (Name := ℕ) (U := UU) (Lvl := ℕ) (Val := Elt F) (τ := τ) ownSem c ∗ unscopedSems0 c)
      ⊢ (iprop((bigSep Finset.univ fun k : Fin 3 => semVal (sharedC (c, k)) 0) ∗ localSems c) : sProp 𝕄) := by
  rw [own_zero, outer_zero, over_three]
  unfold localSems
  iintro ⟨⟨H0, H1, H2, H3, H4, HS, HV⟩, HR⟩
  isplitl [HS HV HR]
  · isplitl [HR]; · iexact HR
    isplitl [HS] <;> iassumption
  isplitl [H0]; · iexact H0
  isplitl [H1]; · iexact H1
  isplitl [H2]; · iexact H2
  isplitl [H3] <;> iassumption

/-! ## Making the invariants -/

/-- What a device has between the two halves: invariants of its counters under some names. -/
def shareMid (c : Dev nD) : sProp 𝕄 :=
  iprop((bigSep Finset.univ fun k => iprop(∃ κ : ℕ, cellInv pairE (pairRd m) κ (sharedC (c, k)))) ∗ ownPos c ∗ ownToks c ∗ localSems c)

/-- A device makes the invariants of its three counters. -/
theorem make_invs (c : Dev nD) :
    iprop(Pipeline.ownSems0 (Ix := Unit) (Name := ℕ) (U := UU) (Lvl := ℕ) (Val := Elt F) (τ := τ) ownSem c ∗ unscopedSems0 c ∗ share₀ m c)
      ⊢ |={Set.univ}=> shareMid m c := by
  have one (k : Fin 3) : iprop(semVal (sharedC (c, k)) 0 ∗ roundState pairE (pairRd m) (sharedC (c, k)) 0)
      ⊢ (|={Set.univ}=> iprop(∃ κ : ℕ, cellInv pairE (pairRd m) κ (sharedC (c, k))) : sProp 𝕄) :=
    (Rounds.body_intro pairE (pairRd m) (sharedC (c, k))).trans inv_alloc
  have three : iprop((bigSep Finset.univ fun k : Fin 3 => semVal (sharedC (c, k)) 0) ∗ bigSep Finset.univ fun k : Fin 3 => roundState pairE (pairRd m) (sharedC (c, k)) 0)
      ⊢ (|={Set.univ}=> bigSep Finset.univ fun k => iprop(∃ κ : ℕ, cellInv pairE (pairRd m) κ (sharedC (c, k))) : sProp 𝕄) := by
    rw [← bigSep_sep']
    exact (bigSep_mono fun k _ => one k).trans (bigSep_fupd _ _)
  unfold share₀ shareMid
  iintro ⟨Hos, Hus, Hst, Hat, Htok⟩
  ihave Hv := (sort_zero (F := F) c) $$ [Hos Hus]
  · isplitl [Hos] <;> iassumption
  icases Hv with ⟨Hv, Hloc⟩
  imod three $$ [Hv Hst] with Hinv
  · isplitl [Hv] <;> iassumption
  imodintro
  isplitl [Hinv]; · iexact Hinv
  isplitl [Hat]; · iexact Hat
  isplitl [Htok] <;> iassumption

/-! ## What all devices may know, what each keeps -/

/-- All invariants under their names, and all first rounds reached. -/
def common (K : Dev nD × Fin 3 → ℕ) : sProp 𝕄 :=
  iprop((bigSep Finset.univ fun i : Dev nD × Fin 3 => cellInv pairE (pairRd m) (K i) (sharedC i))
    ∗ bigSep Finset.univ fun i : Dev nD × Fin 3 => reached pairE (sharedC i) 0)

instance common_persistent (K : Dev nD × Fin 3 → ℕ) : BI.Persistent (common m K) := by unfold common; infer_instance

/-- What a device keeps for itself. -/
def kept (c : Dev nD) : sProp 𝕄 :=
  iprop((bigSep Finset.univ fun k : Fin 3 => atPos pairE (sharedC (c, k)) 0 ∅ 0) ∗ useToks c ∗ localSems c)

theorem inv_of (K : Dev nD × Fin 3 → ℕ) (i : Dev nD × Fin 3) :
    (bigSep Finset.univ fun i : Dev nD × Fin 3 => (cellInv pairE (pairRd m) (K i) (sharedC i) : sProp 𝕄)) ⊢ cellInv pairE (pairRd m) (K i) (sharedC i) :=
  bigSep_elim (Finset.mem_univ i)

theorem reached_of (i : Dev nD × Fin 3) :
    (bigSep Finset.univ fun i : Dev nD × Fin 3 => (reached pairE (sharedC i) 0 : sProp 𝕄)) ⊢ reached pairE (sharedC i) 0 :=
  bigSep_elim (Finset.mem_univ i)

/-- From the common knowledge and what it keeps a device has the protocol's start. -/
theorem start_of (K : Dev nD × Fin 3 → ℕ) (c : Dev nD) : iprop(common m K ∗ kept c) ⊢ share₁ m c := by
  unfold common kept share₁ ghost invs useToks
  rw [over_three]
  iintro ⟨⟨#HI, #HR⟩, ⟨HaR, HaS, HaV⟩, ⟨HtR, HtV, HtS⟩, Hloc⟩
  isplitr [Hloc]
  · iexists K
    isplitr
    · isplitr; · iapply (inv_of m K (c, 0)); iexact HI
      isplitr; · iapply (inv_of m K (c, 1)); iexact HI
      isplitr; · iapply (inv_of m K (c, 2)); iexact HI
      isplitr; · iapply (inv_of m K (mate c, 0)); iexact HI
      iapply (inv_of m K (mate c, 2)); iexact HI
    isplitl [HaR HaS HaV]
    · isplitl [HaR]; · iexact HaR
      isplitl [HaS] <;> iassumption
    isplitr
    · isplitr; · iapply (reached_of (F := F) (mate c, 0)); iexact HR
      isplitr; · iapply (reached_of (F := F) (mate c, 2)); iexact HR
      isplitr; · iapply (reached_of (F := F) (c, 1)); iexact HR
      iapply (reached_of (F := F) (c, 2)); iexact HR
    isplitl [HtR]; · iexact HtR
    isplitl [HtV] <;> iassumption
  iexact Hloc

/-- The ready and the receive tokens change hands within each pair. -/
theorem pass_toks : (bigSep Finset.univ fun c : Dev nD => (ownToks c : sProp 𝕄)) ⊢ bigSep Finset.univ fun c : Dev nD => useToks c := by
  unfold ownToks useToks
  simp only [bigSep_sep']
  rw [bigSep_univ_equiv exchange (fun c : Dev nD => (dutyTok pairE (readyC c) 0 () : sProp 𝕄)),
    bigSep_univ_equiv exchange (fun c : Dev nD => (dutyTok pairE (recvC c) 0 () : sProp 𝕄))]
  iintro ⟨HR, HS, HV⟩
  isplitl [HR]; · iexact HR
  isplitl [HV]; · iexact HV
  iexact HS

/-- Something all may know, beside a conjunction over a set, may be used at each member. -/
theorem use_common {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants put together give each device its start. -/
theorem spread : (bigSep Finset.univ fun c : Dev nD => shareMid m c) ⊢ (bigSep Finset.univ (share₁ m) : sProp 𝕄) := by
  unfold shareMid ownPos
  simp only [bigSep_sep']
  rw [← bigSep_univ_prod (fun i : Dev nD × Fin 3 => iprop(∃ κ : ℕ, cellInv pairE (pairRd m) κ (sharedC i))),
    ← bigSep_univ_prod (fun i : Dev nD × Fin 3 => (reached pairE (sharedC i) 0 : sProp 𝕄))]
  iintro ⟨HI, ⟨Hat, #HR⟩, Htok, Hloc⟩
  ihave HK := (BI.bigSep_exists_pi Finset.univ (fun (i : Dev nD × Fin 3) (κ : ℕ) => (cellInv pairE (pairRd m) κ (sharedC i) : sProp 𝕄))) $$ HI
  icases HK with ⟨%K, #HI⟩
  ihave Htk := (pass_toks (F := F)) $$ Htok
  iapply (use_common (R := common m K) fun c _ => start_of m K c)
  isplitr
  · unfold common; isplitl; · iexact HI
    iexact HR
  · unfold kept; simp only [bigSep_sep']
    isplitl [Hat]; · iexact Hat
    isplitl [Htk] <;> iassumption

/-- The launch's global step: counters at zero and ghost shares become each device's start. -/
theorem set_up : (bigSep Finset.univ fun c => iprop(Pipeline.ownSems0 (Ix := Unit) (Name := ℕ) (U := UU) (Lvl := ℕ) (Val := Elt F) (τ := τ) ownSem c ∗ unscopedSems0 c ∗ share₀ m c) : sProp 𝕄)
    ⊢ |={Set.univ}=> bigSep Finset.univ (share₁ m) :=
  ((bigSep_mono fun c _ => make_invs m c).trans (bigSep_fupd _ _)).trans (BI.fupd_mono (spread m))

/-! ## The launch credit -/

theorem same_counter {a b : Dev nD} {sm : SemLoc sig} : ((((a : Thread nD τ), sm) : GSem nD τ sig) = ((b : Thread nD τ), sm)) ↔ a = b :=
  ⟨fun h => congrArg (fun g : GSem nD τ sig => g.1.1) h, fun h => h ▸ rfl⟩

theorem mate_eq {d c : Dev nD} : c = mate d ↔ d = mate c :=
  ⟨fun h => by rw [h, mate_mate], fun h => by rw [h, mate_mate]⟩

/-- Of what `d` owes, `c`'s ready counter gets one unit if `d` is its mate. -/
theorem owed_to_ready (d c : Dev nD) : owed₀ d (readyC c) () = if d = mate c then 1 else 0 := by
  unfold owed₀
  rw [Pi.add_apply, Finsupp.add_apply, tallyAt_ne_cell (fun h => recv_ne_ready (congrArg Prod.snd h).symm), tallyAt_apply, Finsupp.zero_apply, Nat.zero_add]
  exact if_congr (by rw [same_counter, mate_eq]; simp) rfl rfl

/-- Of what `d` owes, `c`'s receive counter gets the copied buffer's size if `d` is its mate. -/
theorem owed_to_recv (d c : Dev nD) : owed₀ d (recvC c) () = if d = mate c then credit else 0 := by
  unfold owed₀
  rw [Pi.add_apply, Finsupp.add_apply, tallyAt_apply, tallyAt_ne_cell (fun h => recv_ne_ready (congrArg Prod.snd h)), Finsupp.zero_apply, Nat.add_zero]
  exact if_congr (by rw [same_counter, mate_eq]; simp) rfl rfl

theorem credit_ready (c : Dev nD) :
    tallyOn (readyC c) (launchCredit (Pipeline.owing owed₀) 0 (readyC c)) = (tallyAt (readyC c) () 1 : CellTallies nD τ sig Unit) := by
  unfold tallyAt; refine congrArg _ (Finsupp.ext fun u => ?_); cases u
  rw [Pipeline.launchCredit_owing, Finsupp.single_eq_same, Finset.sum_congr rfl fun d _ => owed_to_ready d c, Finset.sum_ite_eq' Finset.univ (mate c) fun _ => 1,
    if_pos (Finset.mem_univ _)]

theorem credit_recv (c : Dev nD) :
    tallyOn (recvC c) (launchCredit (Pipeline.owing owed₀) 0 (recvC c)) = (tallyAt (recvC c) () credit : CellTallies nD τ sig Unit) := by
  unfold tallyAt; refine congrArg _ (Finsupp.ext fun u => ?_); cases u
  rw [Pipeline.launchCredit_owing, Finsupp.single_eq_same, Finset.sum_congr rfl fun d _ => owed_to_recv d c, Finset.sum_ite_eq' Finset.univ (mate c) fun _ => credit,
    if_pos (Finset.mem_univ _)]

/-- A device is credited what its mate owes it. -/
theorem credits (c : Dev nD) : (Pipeline.launchCred owed₀ c : sProp 𝕄) ⊢ iprop(cred (tallyAt (readyC c) () 1) ∗ cred (tallyAt (recvC c) () credit)) := by
  unfold Pipeline.launchCred
  rw [bigSep_univ_at _ readySem, credit_ready]
  refine sep_mono_right ?_
  rw [← credit_recv]
  exact bigSep_elim (Finset.mem_erase.mpr ⟨recv_ne_ready, Finset.mem_univ _⟩)

end Cert.PairLoss

end
-- ==== Proof.Run.lean ====
/-
# The run of the kernel

Every execution of the kernel's program terminates; at its end each device's result holds `lossAt`, the arguments hold
what they held and every counter is at zero. The statement is for any interpretation of the float types.
-/
module

public import proofs.«01_k».proof.Proof.Deal
public import proofs.«01_k».proof.Proof.Gen.KernelIdeal.Points
public import Idealize.ShloMosaic.Lib.Pipeline.CollectiveSegs
public import Idealize.ShloMosaic.Lib.Pipeline.ValueKit

@[expose] public section

noncomputable section

namespace Cert.PairLoss

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data: one point, one output window -/

/-- Before the body: the protocol's start and the scratch buffers. -/
def before (c : Dev nD) : sProp 𝕄 := iprop((∃ K, begin_ m K c) ∗ scratch c)

/-- The result window holds the loss after the one point; what is owed at the start is paid at the end. -/
def dats (_ : Fin 1) (c : Dev nD) : Dat τ (Elt F) Unit ℕ UU ℕ cfg0 c where
  A w := (start₀ m ρ).mem ((cfg0.win w).arr.view.loc (c : Thread nD τ))
  after w _ := match w with
    | ⟨0, _⟩ => lossAt m c
  Φ t := match t with
    | ⟨0, _⟩ => before m c
    | ⟨_ + 1, _⟩ => end_ m c
  q _ := fullShare
  owed t := match t with
    | ⟨0, _⟩ => owed₀ c
    | ⟨_ + 1, _⟩ => 0

/-- A whole buffer owned at contents `X`. -/
theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The result block's staging buffer at contents `X`. -/
def staged (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-- The obligation of the one point, its two sides written out. -/
theorem point_runs (c : Dev nD) :
    iprop(before m c ∗ (dats m ρ 0 c).owesAt () (t0_0 : Fin cfg0.N).castSucc ∗ (∃ d, staged c ((dats m ρ 0 c).before (0 : Fin 1) t0_0 d)))
      ⊢ wp frame (wpE (defs₀ (F := F)) 𝒱₀ c none) Set.univ
          (cc0_body (Memref.whole main_arg0) (Memref.isWhole_whole _) (Memref.whole main_arg1) (Memref.isWhole_whole _) (Memref.whole main_arg2) (Memref.isWhole_whole _)
            (Memref.whole cc0_stg0_0) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            cc0_scratch5 cc0_scratch6 cc0_scratch7 cc0_scratch8 cc0_scratch9)
          (fun _ => iprop(end_ m c ∗ (dats m ρ 0 c).owesAt () (t0_0 : Fin cfg0.N).succ ∗ staged c (lossAt m c))) := by
  unfold before staged Dat.owesAt Pipeline.owesWithin
  iintro ⟨⟨⟨%K, Hb⟩, Hscr⟩, ⟨%W, -, HO⟩, ⟨%d, %g, -, Hout⟩⟩
  iapply (sound_body m K c W g _)
  isplitl [Hb Hscr HO Hout]
  · isplitl [Hb]; · iexact Hb
    isplitl [Hscr]; · iexact Hscr
    isplitl [HO]; · iexact HO
    iexact Hout
  iintro ⟨He, ⟨%W', HO⟩, Hout⟩
  isplitl [He]; · iexact He
  isplitl [HO]
  · iexists W'
    isplitr; · ipureintro; exact fun _ _ => Or.inl trivial
    iexact HO
  iexists (lossAt m c)
  isplitr; · ipureintro; rfl
  iexact Hout

set_option maxRecDepth 4000 in
/-- The pipeline's obligation for the body. -/
theorem body_runs (c : Dev nD) : BodyObligation (dats (F := F) m ρ 0 c) (defs₀ (F := F)) 𝒱₀ () Set.univ := fun t => by
  rw [fin_N0 t, bigSep_W0, bigSep_W0]
  simp only [whole_owned]
  exact point_runs m ρ c

/-! ## The launch's side conditions -/

theorem share_full (c : Dev nD) (w : Fin cfg0.W) : (dats m ρ 0 c).share w = fullShare := by unfold Dat.share; split <;> rfl

/-- What a device holds when it enters the kernel. -/
theorem enter (c : Dev nD) :
    iprop(Pipeline.unscopedRestP Pipeline.Prefetch.none cfg0.spec c (fun b => m ((c : Thread nD τ).loc b)) ∗ levAts lvDom lvOf
        ∗ Pipeline.launchCred owed₀ c ∗ prngReg c (ρ c) ∗ share₁ m c)
      ⊢ |={Set.univ}=> iprop((∃ K, begin_ m K c) ∗ emp) := by
  rw [Pipeline.unscopedRestP_none, unscopedRest0_eq]
  unfold share₁ begin_ args
  iintro ⟨Hargs, Hlev, Hcr, -, ⟨⟨%K, HG⟩, Hloc⟩⟩
  ihave Hc := (credits (F := F) c) $$ Hcr
  icases Hc with ⟨H1, HN⟩
  imodintro
  isplitl
  · iexists K
    isplitl [HG]; · iexact HG
    isplitl [H1]; · iexact H1
    isplitl [HN]; · iexact HN
    isplitl [Hlev]; · iexact Hlev
    isplitl [Hloc] <;> iassumption
  · iempintro

/-- With the scratch buffers that is the invariant before the point. -/
theorem at_first (c : Dev nD) :
    iprop((∃ K, begin_ m K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scratch
  iintro ⟨Hs, -, Hr⟩
  isplitl [Hs] <;> iassumption

/-- What a device gives back at the end: its counters at zero and the scratch buffers; the ready counter and the arguments remain. -/
theorem at_last (c : Dev nD) :
    (dats m ρ 0 c).Φ (Fin.last cfg0.N)
      ⊢ iprop((unscopedSems0 c ∗ args m c) ∗ Pipeline.ownSems0 ownSem c ∗ Pipeline.scopedRest cfg0.spec c) := by
  rw [show (dats m ρ 0 c).Φ (Fin.last cfg0.N) = end_ m c from rfl, scopedRest0_eq, own_zero, outer_zero]
  unfold end_ localSems scratch
  iintro ⟨⟨HR, HS, HV⟩, ⟨H0, H1, H2, H3, H4⟩, Ha, Hb⟩
  isplitl [HR Ha]
  · isplitl [HR] <;> iassumption
  isplitl [HS HV H0 H1 H2 H3 H4]
  · isplitl [H0]; · iexact H0
    isplitl [H1]; · iexact H1
    isplitl [H2]; · iexact H2
    isplitl [H3]; · iexact H3
    isplitl [H4]; · iexact H4
    isplitl [HS] <;> iassumption
  iexact Hb

/-- The pipeline's own waits are below everything owed. -/
theorem pipeline_waits (c : Dev nD) : (levAts lvDom lvOf : sProp 𝕄) ⊢ Pipeline.cellsWaits cfgs (dats m ρ) () 0 c :=
  Pipeline.cellsWaits_intro cfgs (dats m ρ) () 0 c fun w s t =>
    may_low c _ (by fin_cases w <;> fin_cases s <;> decide) _ (by
      intro g u h
      rcases t with ⟨_ | _, ht⟩
      · exact owed₀_pos h
      · exact absurd h (Nat.lt_irrefl 0))

/-- What a final state says of a device: the ready counter is at zero, the arguments hold what they held. -/
def Kept (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

/-- The final state is read off what remains. -/
theorem read_kept (c : Dev nD) (s' : Phys nD τ sig (Elt F)) :
    iprop((unscopedSems0 c ∗ args m c) ∗ emp ∗ SI s') ⊢ |={Set.univ}=> (iprop(⌜Kept m c s'.mem⌝ ∗ SI s') : sProp 𝕄) := by
  unfold args
  iintro ⟨⟨Hu, H0, H1, H2⟩, -, HSI⟩
  icombine HSI H0 gives %h0
  icombine HSI H1 gives %h1
  icombine HSI H2 gives %h2
  imod (Pipeline.unscopedSems0_read (X := unscopedSems0 c) (c := c) fupd_intro s') $$ [Hu HSI] with ⟨%hz, HSI⟩
  · isplitl [Hu] <;> iassumption
  imodintro
  isplitr
  · ipureintro
    exact ⟨hz, Buf.eq_of_forall_mem_univ h0, Buf.eq_of_forall_mem_univ h1, Buf.eq_of_forall_mem_univ h2⟩
  iexact HSI

/-! ## The run -/

/-- The result array after the run holds the loss. -/
theorem result_final (c : Dev nD) : (dats m ρ 0 c).arrAt (0 : Fin 1) cfg0.N = lossAt m c := by
  refine (dats m ρ 0 c).arrAt_eq_of_after_last (0 : Fin 1) t0_0 (by decide +kernel) _ fun j => ?_
  blk_simp
  rfl

/-- What the program leaves: results, arguments, counters. -/
def Final (s : MemSt nD τ sig (Elt F)) : Prop :=
  (∀ c : Dev nD, s.mem ((c : Thread nD τ).loc main_v1) = lossAt m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ s.sem = fun _ => 0

set_option maxRecDepth 8000 in
/-- From any memory with counters at zero every execution of the kernel's program terminates in a final state as said. -/
theorem run_main : θ_run defs (onTc (τ := τ) (main (F := F))) (start₀ m ρ) (fun r => Final m r.2) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) pipeE defs₀ 𝒱₀ m ρ main
    (hmain := fun _ => rfl)
    (hbody := body_runs m ρ) (hne := fun w => by fin_cases w; exact Nat.succ_pos _) (harr := arr_whole0) (hstage := stage_whole0) (hshare := share_full m ρ)
    (hdistinct := winFacts0.arr_inj)
    (O₀ := owed₀) (howed₀ := fun _ => rfl) (howedN := fun _ => rfl)
    (L := lvDom) (lv := lvOf) (hL := lvDom_other) (hwaits := pipeline_waits m ρ)
    (G := share₀ m) (G' := share₁ m) (u₀ := ghost₀)
    (hu₀ := by
      unfold ghost₀
      iintro Hu
      ihave H := (ownU_pair _ _) $$ Hu
      icases H with ⟨HP, HR⟩
      ihave H' := (own_pair_emb (embR : Emb PairU 𝕄) _ _) $$ HR
      icases H' with ⟨HX, -⟩
      imod (deal m) $$ [HX] with HG
      · iexact HX
      imodintro
      isplitl [HP] <;> iassumption)
    (hglob := set_up m)
    (hA := fun _ _ => rfl) (hpf := fun _ k => k.elim0)
    (X := fun c => iprop(∃ K, begin_ m K c)) (Y := fun c => iprop(unscopedSems0 c ∗ args m c)) (Z := fun _ => iprop(emp))
    (hX := enter m ρ) (hin := at_first m ρ) (hout := at_last m ρ)
    (QY := Kept m)
    (hY := read_kept m)
    (hQ := fun _ h hs => ⟨fun c => ⟨((h c).1 (0 : Fin 1)).trans (result_final m ρ c), (h c).2.2.2⟩, sem_eq_zero hs fun c => (h c).2.2.1⟩)

end Cert.PairLoss

end
-- ==== Proof.Frames.lean ====
/-
# The frames

Each of the three programs, from any memory whose counters are at zero, terminates in every execution, leaves its
arguments as they were and leaves every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.PairLoss

open Idealize.ShloMosaic Idealize.SL.Sem

/-- The kernel's frame, over any interpretation of the float types. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2))
      ∧ r.2.sem = fun _ => 0 :=
  (θ_run (Cert.KernelIdeal.defs (F := F)) _ _).mono (fun _ h => ⟨fun c => (h.1 c).2, h.2⟩) (run_main (F := F) m ρ)

/-- The table of kernel bodies is one and the same in the two printed texts. -/
theorem defs₀_same : Cert.Kernel.defs₀ (F := Bits) = Cert.KernelIdeal.defs₀ (F := Bits) := by
  refine congrArg (Defs.onTc (Λ := Cert.KernelIdeal.Λ₀)) (funext fun l => funext fun a => ?_)
  match l, a with
  | 0, (t, s) => rfl

/-- So is the table with the pipeline in it. -/
theorem defs_same : Cert.Kernel.defs (F := Bits) = Cert.KernelIdeal.defs (F := Bits) :=
  congrArg (Pipeline.defs (Cert.KernelIdeal.pcfgs (F := Bits))) defs₀_same

/-- The kernel read over bit patterns. -/
theorem frame_kernel : Cert.quiescent_Kernel (hKernel := Cert.Kernel.Gen.facts) := fun m ρ _ => by
  have h := frame_any (F := Bits) m ρ
  rw [← defs_same] at h
  exact h

/-- The kernel read over extended reals. -/
theorem frame_kernelIdeal : Cert.quiescent_KernelIdeal (hKernelIdeal := Cert.KernelIdeal.Gen.facts) := fun m ρ _ => frame_any (F := Ideal) m ρ

/-- The reference, which has no counters. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩) (Cert.ReferenceIdeal.Value.run m ρ)

end Cert.PairLoss

end
-- ==== Proof.Merge.lean ====
/-
# Maximum, sum of exponentials and selected entry, kept for a part of a row

A row of 8192 extended reals is worked through in parts. Of a part three numbers are kept: the greatest entry, the sum of
the exponentials of the entries less that greatest one, and the sum of the entries that stand at a wanted place. This
module says how the numbers of two disjoint parts give those of their union. Nothing here asks for the entries to be
finite.
-/
module

public import Idealize.ShloMosaic.PureOps.Ideal
public import Idealize.ShloMosaic.PureOps.Ideal.Laws

@[expose] public section

noncomputable section

namespace Cert.PairLoss

open Idealize.ShloMosaic

/-- Rescaling an exponential: from one bound `m` of the entry to a greater one `m'`. -/
theorem exp_rescale {l m m' : EReal} (h : l ≤ m) (h' : m ≤ m') :
    Ideal.exp (l - m) * Ideal.exp (m - m') = Ideal.exp (l - m') := by
  induction m' with
  | top => simp [EReal.sub_top, Ideal.exp_bot]
  | bot =>
    obtain rfl := le_bot_iff.mp h'
    obtain rfl := le_bot_iff.mp h
    simp [Ideal.exp_bot]
  | coe m' =>
    induction m with
    | top => exact absurd h' (by simp)
    | bot =>
      obtain rfl := le_bot_iff.mp h
      simp [Ideal.exp_bot]
    | coe m =>
      induction l with
      | top => exact absurd h (by simp)
      | bot => simp [Ideal.exp_bot]
      | coe l =>
        rw [← EReal.coe_sub, ← EReal.coe_sub, ← EReal.coe_sub, Ideal.exp_coe, Ideal.exp_coe, Ideal.exp_coe, ← EReal.coe_mul,
          ← Real.exp_add]
        congr 2
        ring

/-- An exponential is not negative. -/
theorem exp_nonneg' (x : EReal) : 0 ≤ Ideal.exp x := by
  induction x with
  | top => simp [Ideal.exp_top]
  | bot => simp [Ideal.exp_bot]
  | coe x => rw [Ideal.exp_coe]; exact_mod_cast (Real.exp_pos x).le

/-- A factor distributes over a finite sum of terms that are not negative. -/
theorem sum_scale {ι : Type} (S : Finset ι) (f : ι → EReal) (hf : ∀ i, 0 ≤ f i) (a : EReal) :
    (∑ i ∈ S, f i) * a = ∑ i ∈ S, f i * a := by
  classical
  induction S using Finset.induction_on with
  | empty => simp
  | insert i S hi ih =>
    rw [Finset.sum_insert hi, Finset.sum_insert hi, EReal.right_distrib_of_nonneg (hf i) (Finset.sum_nonneg fun j _ => hf j), ih]

/-- The entries from place `a` on, `n` of them. -/
def span (a n : ℕ) : Finset (Fin 8192) := Finset.univ.filter fun v => a ≤ v.val ∧ v.val < a + n

/-- Two neighbouring runs of entries have no entry in common. -/
theorem span_disjoint {a n b k : ℕ} (h : a + n ≤ b ∨ b + k ≤ a) : Disjoint (span a n) (span b k) := by
  rw [Finset.disjoint_left]
  intro v hv hv'
  simp only [span, Finset.mem_filter, Finset.mem_univ, true_and] at hv hv'
  omega

/-- A run of entries followed by another is one run. -/
theorem span_append (a n k : ℕ) : span a n ∪ span (a + n) k = span a (n + k) := by
  ext v
  simp only [span, Finset.mem_union, Finset.mem_filter, Finset.mem_univ, true_and]
  omega

/-- The two halves of the row, in either order, are the row. -/
theorem halves (y : ℕ) (hy : y < 2) : span (4096 * y) 4096 ∪ span (4096 * (1 - y)) 4096 = Finset.univ := by
  ext v
  have := v.isLt
  simp only [span, Finset.mem_union, Finset.mem_filter, Finset.mem_univ, true_and, iff_true]
  omega

/-- The entry `j` of the run of 1024 that begins at `a`. -/
def place (a : ℕ) (ha : a + 1024 ≤ 8192) (j : Fin 1024) : Fin 8192 := ⟨a + j.val, by have := j.isLt; omega⟩

/-- Different positions of a run are different entries. -/
theorem place_injective (a : ℕ) (ha : a + 1024 ≤ 8192) : Function.Injective (place a ha) := fun i j h => by
  have := congrArg Fin.val h
  simp only [place] at this
  exact Fin.ext (by omega)

/-- A run of 1024 is the image of its positions. -/
theorem span_eq_map (a : ℕ) (ha : a + 1024 ≤ 8192) :
    span a 1024 = Finset.univ.map ⟨place a ha, place_injective a ha⟩ := by
  ext v
  simp only [span, Finset.mem_filter, Finset.mem_univ, true_and, Finset.mem_map, Function.Embedding.coeFn_mk]
  constructor
  · intro h
    exact ⟨⟨v.val - a, by omega⟩, Fin.ext (by simp only [place]; omega)⟩
  · rintro ⟨j, rfl⟩
    have := j.isLt
    simp only [place]
    omega

/-- `m` and `s` are the greatest entry of the part `S` of the row `l` and the sum of its exponentials less `m`; `p` is
    the sum of its entries at place `t`. -/
structure Tally (l : Fin 8192 → EReal) (t : ℤ) (S : Finset (Fin 8192)) (m s p : EReal) : Prop where
  max_eq : m = S.sup l
  sum_eq : s = ∑ v ∈ S, Ideal.exp (l v - m)
  pick_eq : p = ∑ v ∈ S, if (v.val : ℤ) = t then l v else 0

/-- The numbers of a run of 1024, computed over its positions. -/
theorem tally_run (l : Fin 8192 → EReal) (t : ℤ) (a : ℕ) (ha : a + 1024 ≤ 8192) (m s p : EReal)
    (hm : m = Finset.univ.fold max ⊥ fun j => l (place a ha j))
    (hs : s = ∑ j, Ideal.exp (l (place a ha j) - m))
    (hp : p = ∑ j : Fin 1024, if ((a + j.val : ℕ) : ℤ) = t then l (place a ha j) else 0) :
    Tally l t (span a 1024) m s p where
  max_eq := by
    rw [span_eq_map a ha, Finset.sup_map, hm]
    rfl
  sum_eq := by
    rw [span_eq_map a ha, Finset.sum_map, hs]
    rfl
  pick_eq := by
    rw [span_eq_map a ha, Finset.sum_map, hp]
    rfl

/-- The sum of a part's exponentials, rescaled to a greater bound. -/
theorem Tally.rescale {l : Fin 8192 → EReal} {t : ℤ} {S : Finset (Fin 8192)} {m s p : EReal} (h : Tally l t S m s p)
    {m' : EReal} (hm' : m ≤ m') : s * Ideal.exp (m - m') = ∑ v ∈ S, Ideal.exp (l v - m') := by
  rw [h.sum_eq, sum_scale S _ fun v => exp_nonneg' _]
  refine Finset.sum_congr rfl fun v hv => exp_rescale ?_ hm'
  rw [h.max_eq]
  exact Finset.le_sup hv

/-- The numbers of two disjoint parts give those of their union. -/
theorem Tally.union {l : Fin 8192 → EReal} {t : ℤ} {S T : Finset (Fin 8192)} {m s p m' s' p' : EReal}
    (h : Tally l t S m s p) (h' : Tally l t T m' s' p') (hd : Disjoint S T) :
    Tally l t (S ∪ T) (max m m') (s * Ideal.exp (m - max m m') + s' * Ideal.exp (m' - max m m')) (p + p') where
  max_eq := by rw [Finset.sup_union, h.max_eq, h'.max_eq]
  sum_eq := by rw [h.rescale (le_max_left _ _), h'.rescale (le_max_right _ _), Finset.sum_union hd]
  pick_eq := by rw [h.pick_eq, h'.pick_eq, Finset.sum_union hd]

/-- Of the whole row with `t` one of its places, the numbers are the row's maximum, its sum of exponentials and entry `t`. -/
theorem Tally.whole {l : Fin 8192 → EReal} {v : Fin 8192} {m s p : EReal} (h : Tally l (v.val : ℤ) Finset.univ m s p) :
    m = Finset.univ.fold max ⊥ l ∧ s = ∑ v, Ideal.exp (l v - m) ∧ p = l v := by
  refine ⟨h.max_eq, h.sum_eq, h.pick_eq.trans ?_⟩
  have e : ∀ w : Fin 8192, ((w.val : ℤ) = (v.val : ℤ)) ↔ w = v := fun w => by
    rw [Fin.ext_iff]; omega
  simp only [e]
  simp

end Cert.PairLoss

end
-- ==== Proof.Chunks.lean ====
/-
# What one device computes of a row, entry by entry

Over the extended reals, each value the kernel's body keeps for a row is written with sums and maxima over the four runs
of 1024 columns of the device's block; the four runs' numbers together are the numbers of the block.
-/
module

public import proofs.«01_k».proof.Proof.Setup
public import proofs.«01_k».proof.Proof.Merge
public import Idealize.ShloMosaic.Lib.Pointwise

@[expose] public section

set_option maxRecDepth 16384

noncomputable section

namespace Cert.PairLoss

open Cert.KernelIdeal Cert.KernelIdeal.Gen
open Idealize.ShloMosaic Idealize.ShloMosaic.TcCoe
open Idealize.ShloMosaic.Pointwise

section Run
variable (x : Vec Ideal S256x512 .f32) (w : Vec Ideal S1x512x1024 .f32) (lab : FVec Ideal S256x1 .f32) (i : Fin 256)

/-- The product of row `i` with column `j` of a run. -/
def runEntry (j : Fin 1024) : EReal := ∑ k : Fin 512, x (ix2 i k) * w (ix3 0 k j)
/-- The greatest entry of a run. -/
def runMax : EReal := Finset.univ.fold max ⊥ fun j => runEntry x w i j
/-- The sum of a run's exponentials. -/
def runSum : EReal := ∑ j, Ideal.exp (runEntry x w i j - runMax x w i)
/-- The sum of a run's entries whose column number is the label less `b`. -/
def runPick (b : EReal) : EReal :=
  ∑ j : Fin 1024, if (((BitVec.ofNat 32 j.val).toInt : ℝ) : EReal) = lab (ix2 i 0) - b then runEntry x w i j else 0

/-- The word of minus infinity. -/
theorem word_bot : Ideal.ofBits .f32 0xFF800000#32 = ⊥ := by simp [Ideal.ofBits, Ideal.ieee]
/-- The word of 1024. -/
theorem word_1024 : Ideal.ofBits .f32 0x44800000#32 = ((1024 : ℝ) : EReal) := by
  simp [Ideal.ofBits, Ideal.ieee, -EReal.coe_mul]; norm_num
/-- The word of 2048. -/
theorem word_2048 : Ideal.ofBits .f32 0x45000000#32 = ((2048 : ℝ) : EReal) := by
  simp [Ideal.ofBits, Ideal.ieee, -EReal.coe_mul]; norm_num
/-- The word of 3072. -/
theorem word_3072 : Ideal.ofBits .f32 0x45400000#32 = ((3072 : ℝ) : EReal) := by
  simp [Ideal.ofBits, Ideal.ieee, -EReal.coe_mul]; norm_num

/-- First run: its maximum. -/
theorem pay5_at : k0_pay5 x w (ix2 i 0) = runMax x w i := by
  pointwise [k0_pay5, k0_pay4, word_bot]; rfl
/-- First run: its sum. -/
theorem pay7_at : k0_pay7 (k0_pay6 x w) (ix2 i 0) = runSum x w i := by
  pointwise [k0_pay7, k0_pay6, k0_pay5, k0_pay4, word_bot]; rfl
/-- First run: its selected entry. -/
theorem pay8_at : k0_pay8 lab k0_pay3 (k0_pay4 x w) (ix2 i 0) = runPick x w lab i 0 := by
  pointwise [k0_pay8, k0_pay4, k0_pay3, word_bot, runPick]; rfl
/-- Second run: its maximum. -/
theorem pay10_at : k0_pay10 x w (ix2 i 0) = runMax x w i := by
  pointwise [k0_pay10, k0_pay9, word_bot]; rfl
/-- Second run: its sum. -/
theorem pay11_at : k0_pay11 x w (ix2 i 0) = runSum x w i := by
  pointwise [k0_pay11, k0_pay10, k0_pay9, word_bot]; rfl

variable (w' : Vec Ideal S1x512x1024 .f32) (m0 m1 s0 s1 p0 : FVec Ideal S256x1 .f32)

/-- Three runs: the maximum. -/
theorem pay16_at : k0_pay16 x m0 m1 w (ix2 i 0) = max (max (m0 (ix2 i 0)) (m1 (ix2 i 0))) (runMax x w i) := by
  pointwise [k0_pay16, k0_pay15, k0_pay14, k0_pay13, word_bot]; rfl
/-- Three runs: the sum. -/
theorem pay17_at : k0_pay17 x m0 s0 m1 s1 w (ix2 i 0) =
    (s0 (ix2 i 0) * Ideal.exp (m0 (ix2 i 0) - max (m0 (ix2 i 0)) (m1 (ix2 i 0)))
        + s1 (ix2 i 0) * Ideal.exp (m1 (ix2 i 0) - max (m0 (ix2 i 0)) (m1 (ix2 i 0))))
      * Ideal.exp (max (m0 (ix2 i 0)) (m1 (ix2 i 0)) - max (max (m0 (ix2 i 0)) (m1 (ix2 i 0))) (runMax x w i))
    + runSum x w i * Ideal.exp (runMax x w i - max (max (m0 (ix2 i 0)) (m1 (ix2 i 0))) (runMax x w i)) := by
  pointwise [k0_pay17, k0_pay16, k0_pay15, k0_pay14, k0_pay13, word_bot]; rfl
/-- Three runs: the selected entry. -/
theorem pay18_at : k0_pay18 lab k0_pay3 x p0 (k0_pay12 lab k0_pay3 x w') w (ix2 i 0) =
    (p0 (ix2 i 0) + runPick x w' lab i ((1024 : ℝ) : EReal)) + runPick x w lab i ((2048 : ℝ) : EReal) := by
  rw [← word_1024, ← word_2048]
  pointwise [k0_pay18, k0_pay12, k0_pay9, k0_pay14, k0_pay3, runPick]; rfl
/-- Four runs: the maximum. -/
theorem pay21_at : k0_pay21 x m0 w (ix2 i 0) = max (m0 (ix2 i 0)) (runMax x w i) := by
  pointwise [k0_pay21, k0_pay20, k0_pay19, word_bot]; rfl
/-- Four runs: the sum. -/
theorem pay22_at : k0_pay22 x m0 s0 w (ix2 i 0) =
    s0 (ix2 i 0) * Ideal.exp (m0 (ix2 i 0) - max (m0 (ix2 i 0)) (runMax x w i))
      + runSum x w i * Ideal.exp (runMax x w i - max (m0 (ix2 i 0)) (runMax x w i)) := by
  pointwise [k0_pay22, k0_pay21, k0_pay20, k0_pay19, word_bot]; rfl
/-- Four runs: the selected entry. -/
theorem pay23_at : k0_pay23 lab k0_pay3 x p0 w (ix2 i 0) = p0 (ix2 i 0) + runPick x w lab i ((3072 : ℝ) : EReal) := by
  rw [← word_3072]
  pointwise [k0_pay23, k0_pay19, k0_pay3, runPick]; rfl

/-- A column number is the label less the run's first column exactly when the column is the label's. -/
theorem column_iff (t : ℤ) (b n : ℕ) (j : Fin 1024) :
    ((((BitVec.ofNat 32 j.val).toInt : ℝ) : EReal) = ((t - (b : ℤ) : ℤ) : ℝ) - ((n : ℝ) : EReal))
      ↔ ((b + n + j.val : ℕ) : ℤ) = t := by
  have hj : (BitVec.ofNat 32 j.val).toInt = (j.val : ℤ) := by
    have := j.isLt
    rw [BitVec.toInt_ofNat', Int.bmod_eq_of_le] <;> omega
  rw [hj, ← EReal.coe_sub, EReal.coe_eq_coe_iff]
  have e : (((t - (b : ℤ) : ℤ) : ℝ) - (n : ℝ)) = ((t - (b : ℤ) - (n : ℤ) : ℤ) : ℝ) := by push_cast; ring
  rw [e, Int.cast_inj]
  push_cast
  omega

/-- The numbers of one run, as a part of the row `l`. -/
theorem run_tally {l : Fin 8192 → EReal} {t : ℤ} {b n : ℕ} (ha : b + n + 1024 ≤ 8192)
    (hl : ∀ j, runEntry x w i j = l (place (b + n) ha j)) (ht : lab (ix2 i 0) = (((t - (b : ℤ) : ℤ) : ℝ) : EReal))
    (v : EReal) (hv : v = ((n : ℝ) : EReal)) :
    Tally l t (span (b + n) 1024) (runMax x w i) (runSum x w i) (runPick x w lab i v) := by
  refine tally_run l t (b + n) ha _ _ _ ?_ ?_ ?_
  · simp only [runMax, hl]
  · simp only [runSum, hl]
  · simp only [runPick, ht, hv, hl, column_iff]

end Run

end Cert.PairLoss

end
-- ==== Proof.Block.lean ====
/-
# The loss a device writes, as mathematics of the whole row

The device's four runs are four runs of the whole row, its mate's the other four. So the numbers the two exchange make up
those of the row, and what a device writes for row `i` is the row's maximum, plus the logarithm of the sum of exponentials
less the maximum, minus the entry at the label.
-/
module

public import proofs.«01_k».proof.Proof.Chunks
public import Idealize.ShloMosaic.Lib.Layout

@[expose] public section

set_option maxRecDepth 16384

noncomputable section

namespace Cert.PairLoss

open Cert.KernelIdeal Cert.KernelIdeal.Gen
open Idealize.ShloMosaic Idealize.ShloMosaic.TcCoe
open Idealize.ShloMosaic.Pointwise

/-- The shape of the whole matrix. -/
abbrev Whole : Shape := ⟨2, ![512, 8192]⟩

/-! ## Reading a run of columns -/

/-- Dropping the leading axis of one leaves the other two coordinates. -/
theorem drop_leading (k : Fin 512) (j : Fin 1024) :
    (Shape.reshapeEquiv (s := S1x512x1024) (s' := S512x1024) squeezes_S1x512x1024_S512x1024.numel_eq).symm (ix3 0 k j) = ix2 k j := by
  rw [Equiv.symm_apply_eq]
  pointwise

section Columns
variable (f : (⟨2, ![512, 4096]⟩ : Shape).Idx → EReal) (k : Fin 512) (j : Fin 1024)

/-- The first run of a block. -/
theorem run0_at : chunkVal (F := Ideal) chunk0 f (ix3 0 k j) = f (ix2 k ⟨0 + j.val, by omega⟩) := by
  unfold chunkVal
  rw [drop_leading]
  refine congrArg f (funext fun a => Fin.ext ?_)
  fin_cases a
  · show 0 + 1 * k.val = k.val
    omega
  · show 0 + 1 * j.val = 0 + j.val
    omega
/-- The second run of a block. -/
theorem run1_at : chunkVal (F := Ideal) chunk1 f (ix3 0 k j) = f (ix2 k ⟨1024 + j.val, by omega⟩) := by
  unfold chunkVal
  rw [drop_leading]
  refine congrArg f (funext fun a => Fin.ext ?_)
  fin_cases a
  · show 0 + 1 * k.val = k.val
    omega
  · show 1024 + 1 * j.val = 1024 + j.val
    omega
/-- The third run of a block. -/
theorem run2_at : chunkVal (F := Ideal) chunk2 f (ix3 0 k j) = f (ix2 k ⟨2048 + j.val, by omega⟩) := by
  unfold chunkVal
  rw [drop_leading]
  refine congrArg f (funext fun a => Fin.ext ?_)
  fin_cases a
  · show 0 + 1 * k.val = k.val
    omega
  · show 2048 + 1 * j.val = 2048 + j.val
    omega
/-- The fourth run of a block. -/
theorem run3_at : chunkVal (F := Ideal) chunk3 f (ix3 0 k j) = f (ix2 k ⟨3072 + j.val, by omega⟩) := by
  unfold chunkVal
  rw [drop_leading]
  refine congrArg f (funext fun a => Fin.ext ?_)
  fin_cases a
  · show 0 + 1 * k.val = k.val
    omega
  · show 3072 + 1 * j.val = 3072 + j.val
    omega

end Columns

/-- Which half of the columns device `c` holds. -/
def half (c : Dev nD) : ℕ := c.val / 2 % 2

/-- There are two halves. -/
theorem half_lt (c : Dev nD) : half c < 2 := Nat.mod_lt _ (by decide)

/-- The mate holds the other half. -/
theorem half_mate (c : Dev nD) : half (mate c) = 1 - half c := by
  revert c; decide

/-- Column `j` of device `c`'s block is column `4096 * half c + j` of the matrix. -/
theorem block_at (W : Whole.Idx → EReal) (c : Dev nD) (k : Fin 512) (j : Fin 4096) :
    (Layout.blockN ⟨2, ![512, 4096]⟩ ⟨2, ![512, 8192]⟩ (Layout.meshBlock [2, 2, 2] ![[], [1]] c) W :
        (⟨2, ![512, 4096]⟩ : Shape).Idx → EReal) (ix2 k j)
      = W (ix2 k ⟨4096 * half c + j.val, by have := half_lt c; omega⟩) := by
  rw [Layout.blockN_apply]
  refine congrArg W (funext fun a => Fin.ext ?_)
  rw [Layout.TilesN.idx_val]
  fin_cases a
  · show 0 * 512 + k.val = k.val
    omega
  · show ((Layout.meshBlock [2, 2, 2] ![[], [1]] c) 1).val * 4096 + j.val = 4096 * half c + j.val
    have e : ((Layout.meshBlock [2, 2, 2] ![[], [1]] c) 1).val = half c := by revert c; decide
    rw [e]
    omega

/-! ## The label -/

/-- The first column of the device, as the kernel computes it. -/
theorem first_column (c : Dev nD) : (Scalar.muli (blockWord c) 4096#32).toInt = ((4096 * half c : ℕ) : ℤ) := by
  revert c; decide

/-- An entry of the kernel's matrix of coordinates compared: one on the diagonal, zero off it. -/
theorem eye_at (i x : Fin 256) :
    (FloatOps.sitofp (F := Ideal) .f32 (BitVec.setWidth 32 (IntOp.cmpi .eq (BitVec.ofNat 32 i.val) (BitVec.ofNat 32 x.val))) : EReal)
      = if i = x then 1 else 0 := by
  have e : (BitVec.ofNat 32 i.val = BitVec.ofNat 32 x.val) ↔ i = x := by
    constructor
    · intro h
      have := congrArg BitVec.toNat h
      simp only [BitVec.toNat_ofNat] at this
      exact Fin.ext (by omega)
    · rintro rfl; rfl
  by_cases h : i = x
  · subst h
    rw [if_pos rfl]
    have : BitVec.setWidth 32 (IntOp.cmpi .eq (BitVec.ofNat 32 i.val) (BitVec.ofNat 32 i.val)) = 1#32 := by
      simp [IntOp.cmpi]
    rw [this]
    show (((1#32 : BitVec 32).toInt : ℝ) : EReal) = 1
    have : (1#32 : BitVec 32).toInt = 1 := by decide
    rw [this]
    simp
  · rw [if_neg h]
    have : BitVec.setWidth 32 (IntOp.cmpi .eq (BitVec.ofNat 32 i.val) (BitVec.ofNat 32 x.val)) = 0#32 := by
      have hb : (BitVec.ofNat 32 i.val == BitVec.ofNat 32 x.val) = false := by
        rw [beq_eq_false_iff_ne]; exact fun h' => h (e.mp h')
      simp [IntOp.cmpi, hb]
    rw [this]
    show (((0#32 : BitVec 32).toInt : ℝ) : EReal) = 0
    have : (0#32 : BitVec 32).toInt = 0 := by decide
    rw [this]
    simp

/-- A whole number rounds to itself. -/
theorem round_int (z : ℤ) : Ideal.liftRound Ideal.roundHalfEven ((z : ℝ) : EReal) = ((z : ℝ) : EReal) := by
  rw [Ideal.liftRound_coe, Ideal.roundHalfEven]
  simp

variable (m : (ℓ : Loc nD τ sig) → Buf (Elt Ideal) ℓ)

/-- The label of row `i` less the device's first column. -/
theorem label0_at (c : Dev nD) (i : Fin 256) :
    label0 m c (ix2 i 0) = (((((tAt m c (ix1 i)).toInt - ((4096 * half c : ℕ) : ℤ) : ℤ) : ℝ)) : EReal) := by
  unfold label0
  pointwise [k0_pay2, k0_pay1, rowIds, colIds]
  simp only [eye_at, ite_mul, one_mul, zero_mul, Finset.sum_ite_eq, Finset.mem_univ, if_true, first_column]
  show Ideal.liftRound Ideal.roundHalfEven ((((tAt m c (ix1 i)).toInt : ℝ)) : EReal) - _ = _
  rw [round_int, ← EReal.coe_sub]
  push_cast
  rfl

/-! ## The numbers of a device's block -/

/-- The entries of row `i` of the product: one for each column of the whole matrix. -/
def rowOf (X : Vec Ideal S256x512 .f32) (W : Whole.Idx → EReal) (i : Fin 256) (v : Fin 8192) : EReal :=
  ∑ k : Fin 512, X (ix2 i k) * W (ix2 k v)

section Row
variable (X : Vec Ideal S256x512 .f32) (W : Whole.Idx → EReal) (T : IVec S256 32)

/-- What is said of a device's arguments: its rows and labels are all of them, its block is its half of the columns. -/
structure Given (c : Dev nD) : Prop where
  rows : m ((c : Thread nD τ).loc main_arg0) = X
  block : m ((c : Thread nD τ).loc main_arg1)
    = Layout.blockN ⟨2, ![512, 4096]⟩ ⟨2, ![512, 8192]⟩ (Layout.meshBlock [2, 2, 2] ![[], [1]] c) W
  labels : m ((c : Thread nD τ).loc main_arg2) = T

variable {m X W T}

/-- An entry of a run of the block is an entry of the row. -/
theorem entry_eq {c : Dev nD} (h : Given m X W T c) (i : Fin 256) (n : ℕ) (hn : n + 1024 ≤ 4096) (w : Vec Ideal S1x512x1024 .f32)
    (hw : ∀ (k : Fin 512) (j : Fin 1024), w (ix3 0 k j)
      = (m ((c : Thread nD τ).loc main_arg1) : (⟨2, ![512, 4096]⟩ : Shape).Idx → EReal) (ix2 k ⟨n + j.val, by omega⟩))
    (ha : 4096 * half c + n + 1024 ≤ 8192) (j : Fin 1024) :
    runEntry (xAt m c) w i j = rowOf X W i (place (4096 * half c + n) ha j) := by
  unfold runEntry rowOf
  refine Finset.sum_congr rfl fun k _ => ?_
  rw [hw, h.block, block_at]
  refine congrArg₂ (· * ·) (congrFun h.rows _) (congrArg W (congrArg (ix2 k) (Fin.ext ?_)))
  show 4096 * half c + (n + j.val) = 4096 * half c + n + j.val
  omega

/-- The three numbers a device ends with are those of its half of the row. -/
theorem block_tally {c : Dev nD} (h : Given m X W T c) (i : Fin 256) :
    Tally (rowOf X W i) (T (ix1 i)).toInt (span (4096 * half c) 4096)
      (maxAt m c (ix2 i 0)) (sumAt m c (ix2 i 0)) (pickAt m c (ix2 i 0)) := by
  have hy := half_lt c
  have hlab : label0 m c (ix2 i 0) = (((((T (ix1 i)).toInt - ((4096 * half c : ℕ) : ℤ) : ℤ) : ℝ)) : EReal) := by
    rw [label0_at]
    have e : tAt m c = T := h.labels
    rw [e]
  have T0 := run_tally (xAt m c) (w0At m c) (label0 m c) i (n := 0) (by omega)
    (entry_eq h i 0 (by omega) _ (run0_at _) (by omega)) hlab 0 (by simp)
  have T1 := run_tally (xAt m c) (w1At m c) (label0 m c) i (n := 1024) (by omega)
    (entry_eq h i 1024 (by omega) _ (run1_at _) (by omega)) hlab ((1024 : ℝ) : EReal) (by norm_num)
  have T2 := run_tally (xAt m c) (w2At m c) (label0 m c) i (n := 2048) (by omega)
    (entry_eq h i 2048 (by omega) _ (run2_at _) (by omega)) hlab ((2048 : ℝ) : EReal) (by norm_num)
  have T3 := run_tally (xAt m c) (w3At m c) (label0 m c) i (n := 3072) (by omega)
    (entry_eq h i 3072 (by omega) _ (run3_at _) (by omega)) hlab ((3072 : ℝ) : EReal) (by norm_num)
  have U1 := T0.union T1 (span_disjoint (by omega))
  rw [Nat.add_zero, span_append] at U1
  have U2 := U1.union T2 (span_disjoint (by omega))
  rw [show (1024 + 1024 : ℕ) = 2048 from rfl, span_append] at U2
  have U3 := U2.union T3 (span_disjoint (by omega))
  rw [show (2048 + 1024 : ℕ) = 3072 from rfl, span_append] at U3
  rw [show (3072 + 1024 : ℕ) = 4096 from rfl] at U3
  have e1 : max3 m c (ix2 i 0)
      = max (max (runMax (xAt m c) (w0At m c) i) (runMax (xAt m c) (w1At m c) i)) (runMax (xAt m c) (w2At m c) i) := by
    unfold max3
    rw [pay16_at, pay5_at, pay10_at]
  have e2 : maxAt m c (ix2 i 0) = max (max3 m c (ix2 i 0)) (runMax (xAt m c) (w3At m c) i) := by
    unfold maxAt
    rw [pay21_at]
  unfold sumAt pickAt
  rw [e2, pay22_at, pay23_at]
  unfold sum3 pick3
  rw [pay17_at, pay18_at, e1, pay5_at, pay10_at, pay7_at, pay11_at, pay8_at]
  exact U3

/-- What is sent is what is held. -/
theorem sent_at (c : Dev nD) (i : Fin 256) : maxSent m c (ix2 i 0) = maxAt m c (ix2 i 0)
    ∧ sumSent m c (ix2 i 0) = sumAt m c (ix2 i 0) ∧ pickSent m c (ix2 i 0) = pickAt m c (ix2 i 0) := by
  refine ⟨?_, ?_, ?_⟩
  · unfold maxSent maxAt
    pointwise [k0_pay24]
  · unfold sumSent sumAt
    pointwise [k0_pay25]
  · unfold pickSent
    pointwise [k0_pay26]

/-- The join of two tallies, turned from a column into a row by a product with a matrix. -/
theorem join_at (e : FVec Ideal S256x256 .f32) (M S P M' S' P' : FVec Ideal S256x1 .f32) (i : Fin 256) :
    k0_pay27 e M S P M' S' P' (ix1 i) = ∑ x : Fin 256,
      (max (M (ix2 x 0)) (M' (ix2 x 0))
          + Ideal.log (S (ix2 x 0) * Ideal.exp (M (ix2 x 0) - max (M (ix2 x 0)) (M' (ix2 x 0)))
            + S' (ix2 x 0) * Ideal.exp (M' (ix2 x 0) - max (M (ix2 x 0)) (M' (ix2 x 0))))
        - (P (ix2 x 0) + P' (ix2 x 0))) * e (ix2 x i) := by
  pointwise [k0_pay27]

/-- The kernel's matrix of coordinates compared is the identity. -/
theorem pay1_at (i x : Fin 256) : k0_pay1 (F := Ideal) rowIds colIds (ix2 i x) = if i = x then (1 : EReal) else 0 := by
  rw [← eye_at]
  pointwise [k0_pay1, rowIds, colIds]

/-- The result a device writes at row `i`, before the two tallies are joined. -/
theorem loss_at (c : Dev nD) (i : Fin 256) : lossAt m c (ix1 i) =
    max (maxAt m c (ix2 i 0)) (maxAt m (mate c) (ix2 i 0))
      + Ideal.log (sumAt m c (ix2 i 0) * Ideal.exp (maxAt m c (ix2 i 0) - max (maxAt m c (ix2 i 0)) (maxAt m (mate c) (ix2 i 0)))
        + sumAt m (mate c) (ix2 i 0)
          * Ideal.exp (maxAt m (mate c) (ix2 i 0) - max (maxAt m c (ix2 i 0)) (maxAt m (mate c) (ix2 i 0))))
      - (pickAt m c (ix2 i 0) + pickAt m (mate c) (ix2 i 0)) := by
  unfold lossAt
  rw [join_at]
  simp only [pay1_at, mul_ite, mul_one, mul_zero, Finset.sum_ite_eq', Finset.mem_univ, if_true]
  obtain ⟨h1, h2, h3⟩ := sent_at (m := m) (mate c) i
  rw [h1, h2, h3]

/-- The result a device writes at row `i`, of which `v` is the label. -/
theorem loss_row {c : Dev nD} (h : ∀ c, Given m X W T c) (i : Fin 256) (v : Fin 8192) (hv : (T (ix1 i)).toInt = (v.val : ℤ)) :
    lossAt m c (ix1 i) =
      Finset.univ.fold max ⊥ (rowOf X W i)
        + Ideal.log (∑ v, Ideal.exp (rowOf X W i v - Finset.univ.fold max ⊥ (rowOf X W i)))
        - rowOf X W i v := by
  have A := block_tally (h c) i
  have B := block_tally (h (mate c)) i
  rw [half_mate] at B
  have U := A.union B (span_disjoint (by have := half_lt c; omega))
  rw [halves _ (half_lt c), hv] at U
  obtain ⟨h1, h2, h3⟩ := U.whole
  rw [loss_at, h2, h3, h1]

end Row

end Cert.PairLoss

end
-- ==== Proof.RefValue.lean ====
/-
# The reference at a row

The reference's result at row `i`, when the label there is a column of the matrix: the row's maximum, plus the logarithm of
the sum of exponentials less the maximum, minus the entry at the label.
-/
module

public import proofs.«01_k».proof.Proof.Gen.ReferenceIdeal
public import proofs.«01_k».proof.Proof.Block
public import Idealize.ShloMosaic.Lib.Tactic.WordOmega

@[expose] public section

set_option maxRecDepth 16384

noncomputable section

namespace Cert.PairLoss

open Cert.ReferenceIdeal
open Cert.ReferenceIdeal.Facts₀
open Idealize.ShloMosaic
open Idealize.ShloMosaic.Pointwise

section Term
variable (X : FVec Ideal S256x512 .f32) (W : FVec Ideal S512x8192 .f32) (T : IVec S256 32)

/-- The product of the rows with the whole matrix. -/
def product : FVec Ideal S256x8192 .f32 := Host.dotGeneral dot_S256x512_S512x8192_S256x8192_1_0_0_1_n_n none X W

/-- Each row's maximum. -/
def peak : FVec Ideal S256 .f32 :=
  Host.reduce FloatOps.maximumf (product X W) (constant S_ .f32 0xFF800000#32) reducesTo_S256x8192_S256_d1 h_S_

/-- Each row's sum of exponentials less its maximum. -/
def mass : FVec Ideal S256 .f32 :=
  Host.reduceAdd (Host.exp (subf (product X W) (broadcastInDim S256x8192 ![0, 1] bcast_S256x1_S256x8192_0_1
    (broadcastInDim S256x1 ![0] bcast_S256_S256x1_0 (peak X W))))) (constant S_ .f32 0x00000000#32) reducesTo_S256x8192_S256_d1 h_S_

/-- The row numbers, counted from the end when negative. -/
def rowWords : IVec S256 32 :=
  select (cmpi .slt (iotaInDim S256 32 0) (broadcastInDim S256 ![] bcast_S_S256 (constantI S_ 32 0#32)))
    (addi (iotaInDim S256 32 0) (broadcastInDim S256 ![] bcast_S_S256 (constantI S_ 32 256#32))) (iotaInDim S256 32 0)

/-- The labels, counted from the end when negative. -/
def labelWords : IVec S256 32 :=
  select (cmpi .slt T (broadcastInDim S256 ![] bcast_S_S256 (constantI S_ 32 0#32)))
    (addi T (broadcastInDim S256 ![] bcast_S_S256 (constantI S_ 32 8192#32))) T

/-- The pairs of row and label. -/
def pairs : IVec S256x2 32 :=
  concatenate S256x2 1 [⟨S256x1, (broadcastInDim S256x1 ![0] bcast_S256_S256x1_0 rowWords)⟩,
    ⟨S256x1, (broadcastInDim S256x1 ![0] bcast_S256_S256x1_0 (labelWords T))⟩] concatenates_S256x1_S256x1_S256x2_d1

/-- The reference's result. -/
def refLoss : FVec Ideal S256 .f32 :=
  subf (shapeCast S256 (addf (broadcastInDim S256x1 ![0] bcast_S256_S256x1_0 (peak X W))
      (Host.log (broadcastInDim S256x1 ![0] bcast_S256_S256x1_0 (mass X W)))) shapeCasts_S256x1_S256)
    (Host.gather gather_S256x8192_S256x2_S256_n_01_n_n_01_1_11 (product X W) (pairs T))

/-- The product at an entry. -/
theorem product_at (i : Fin 256) (v : Fin 8192) : product X W (ix2 i v) = rowOf X W i v := by
  pointwise [product]
  rfl

/-- A row's maximum. -/
theorem peak_at (i : Fin 256) : peak X W (ix1 i) = Finset.univ.fold max ⊥ (rowOf X W i) := by
  pointwise [peak, product_at, word_bot]

/-- A row's sum. -/
theorem mass_at (i : Fin 256) :
    mass X W (ix1 i) = ∑ v, Ideal.exp (rowOf X W i v - Finset.univ.fold max ⊥ (rowOf X W i)) := by
  pointwise [mass, product_at, peak_at]

/-- Which entry the gather reads: the row and the column its two index words name, when both are in range. -/
theorem gather_pair {α : Type} (x : S256x8192.Idx → α) (idx : IVec S256x2 32) (i r : Fin 256) (v : Fin 8192)
    (h0 : (idx (ix2 i 0)).toInt = (r.val : ℤ)) (h1 : (idx (ix2 i 1)).toInt = (v.val : ℤ)) :
    Host.gather gather_S256x8192_S256x2_S256_n_01_n_n_01_1_11 x idx (ix1 i) = x (ix2 r v) := by
  unfold Host.gather
  refine congrArg x (funext fun a => Fin.ext ?_)
  have hb : a ∉ (gather_S256x8192_S256x2_S256_n_01_n_n_01_1_11 : GatherDims S256x8192 S256x2 S256).operandBatchingDims :=
    List.not_mem_nil
  have hk : a ∉ (gather_S256x8192_S256x2_S256_n_01_n_n_01_1_11 : GatherDims S256x8192 S256x2 S256).sKept := by
    rw [GatherDims.mem_sKept]
    intro h
    refine h.1 ?_
    show a ∈ ([0, 1] : List (Fin 2))
    fin_cases a <;> simp
  have hm : a ∈ (gather_S256x8192_S256x2_S256_n_01_n_n_01_1_11 : GatherDims S256x8192 S256x2 S256).startIndexMap := by
    show a ∈ ([0, 1] : List (Fin 2))
    fin_cases a <;> simp
  have hs : ∀ c, (gather_S256x8192_S256x2_S256_n_01_n_n_01_1_11 : GatherDims S256x8192 S256x2 S256).siIdx (ix1 i) c
      = ix2 i (Fin.cast rfl c) := by
    intro c
    funext b
    fin_cases b
    · rfl
    · rfl
  simp only [GatherDims.operandIdx, GatherDims.batchCoord_eq_zero _ _ _ hb, GatherDims.offCoord_eq_zero _ _ _ hk,
    Nat.add_zero, GatherDims.start, dif_pos hm, hs]
  fin_cases a
  · show min (idx (ix2 i 0)).toInt.toNat (256 - 1) = r.val
    rw [h0]
    omega
  · show min (idx (ix2 i 1)).toInt.toNat (8192 - 1) = v.val
    rw [h1]
    omega

/-- The first word of a pair is the row. -/
theorem pairs_row (i : Fin 256) : (pairs T (ix2 i 0)).toInt = (i.val : ℤ) := by
  pointwise [pairs, rowWords]
  have := i.isLt
  word_omega

/-- The second word of a pair is the label, when it is a column. -/
theorem pairs_label (i : Fin 256) (v : Fin 8192) (hv : (T (ix1 i)).toInt = (v.val : ℤ)) :
    (pairs T (ix2 i 1)).toInt = (v.val : ℤ) := by
  pointwise [pairs, labelWords]
  generalize T (ix1 i) = t at hv
  have := v.isLt
  word_omega

/-- The reference at row `i`, of which `v` is the label. -/
theorem refLoss_row (i : Fin 256) (v : Fin 8192) (hv : (T (ix1 i)).toInt = (v.val : ℤ)) :
    refLoss X W T (ix1 i) =
      Finset.univ.fold max ⊥ (rowOf X W i)
        + Ideal.log (∑ v, Ideal.exp (rowOf X W i v - Finset.univ.fold max ⊥ (rowOf X W i)))
        - rowOf X W i v := by
  have g := gather_pair (product X W) (pairs T) i i v (pairs_row T i) (pairs_label T i v hv)
  rw [product_at] at g
  pointwise [refLoss, peak_at, mass_at, g]

end Term

end Cert.PairLoss

end
-- ==== Proof.Equation.lean ====
/-
# The equation

Over the extended reals, when every label names a column, each device's result is the reference's.
-/
module

public import proofs.«01_k».proof.Defs
public import proofs.«01_k».proof.Proof.RefValue
public import proofs.«01_k».proof.Proof.Run
public import proofs.«01_k».proof.Proof.Gen.ReferenceIdeal.Run

@[expose] public section

set_option maxRecDepth 16384

noncomputable section

namespace Cert.PairLoss

open Idealize.ShloMosaic Idealize.SL.Sem
open Idealize.ShloMosaic.Pointwise

/-- The precondition's side conditions hold. -/
theorem pre_facts : Cert.Pre_labels_in_vocabulary_KernelIdeal.Facts := ⟨by decide⟩

/-- The same of the reference's spelling of the precondition. -/
theorem pre_facts' : Cert.Pre_labels_in_vocabulary_ReferenceIdeal.Facts := ⟨by decide⟩

/-- A word between zero and 8192 is a column's number. -/
theorem column_of_word (t : BitVec 32) (h : IntOp.andi (IntOp.cmpi .sge t 0#32) (IntOp.cmpi .slt t 8192#32) = 1#1) :
    ∃ v : Fin 8192, t.toInt = (v.val : ℤ) := by
  have hb : 0 ≤ t.toInt ∧ t.toInt < 8192 := by
    constructor <;> word_omega
  exact ⟨⟨t.toInt.toNat, by omega⟩, by simp only; omega⟩

/-- Under the precondition each row's label is a column's number. -/
theorem label_column [Cert.Pre_labels_in_vocabulary_KernelIdeal.Facts] (X : FVec Ideal ⟨2, ![256, 512]⟩ .f32)
    (W : FVec Ideal ⟨2, ![512, 4096]⟩ .f32) (T : IVec ⟨1, ![256]⟩ 32)
    (h : Cert.Pre_labels_in_vocabulary_KernelIdeal.fn (F := Ideal) X W T = fun _ => 1#1) (i : Fin 256) :
    ∃ v : Fin 8192, (T (ix1 i)).toInt = (v.val : ℤ) := by
  have hi := congrFun h (ix1 i)
  refine column_of_word _ (Eq.trans ?_ hi)
  pointwise [Cert.Pre_labels_in_vocabulary_KernelIdeal.fn]

/-- Kernel and reference compute the same function over the extended reals. -/
theorem same_function : Cert.algebraic_KernelIdeal_ReferenceIdeal_pre_labels_in_vocabulary_KernelIdeal
    (hKernelIdeal := Cert.KernelIdeal.Gen.facts) (hReferenceIdeal := Cert.ReferenceIdeal.Gen.facts)
    (hPre_labels_in_vocabulary_KernelIdeal := pre_facts) := by
  intro m ρ m' ρ' hpre hargs
  have hg : ∀ c, Given m (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2)) c :=
    fun c => ⟨(hargs c).1, (hargs c).2.1, (hargs c).2.2⟩
  have hl : ∀ c, lossAt m c = refLoss (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2)) := by
    intro c
    funext j
    obtain ⟨i, rfl⟩ : ∃ i : Fin 256, j = ix1 i := ⟨j 0, by funext a; fin_cases a; rfl⟩
    obtain ⟨v, hv⟩ := @label_column pre_facts _ _ _ (hpre c) i
    rw [(hargs c).2.2] at hv
    exact (loss_row hg i v hv).trans (refLoss_row _ _ _ i v hv).symm
  refine ⟨refLoss (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2)), ?_, ?_⟩
  · exact (θ_run (Cert.KernelIdeal.defs (F := Ideal)) _ _).mono
      (fun r h c => ⟨(h.1 c).1.trans (hl c), (h.1 c).2⟩) (run_main (F := Ideal) m ρ)
  · exact (θ_run (Cert.ReferenceIdeal.defs (F := Ideal)) _ _).mono
      (fun r h => ⟨(h 0).1, (h 0).2⟩) (Cert.ReferenceIdeal.Value.run (F := Ideal) m' ρ')

end Cert.PairLoss

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation
public import Idealize.ShloMosaic.Adequacy
public import Idealize.ShloMosaic.Init

@[expose] public section

noncomputable section

namespace Cert.Proof

open Cert.PairLoss

/-- Everything that the certificate claims. -/
theorem claim : Cert.Claim :=
  ⟨Cert.Kernel.Gen.facts, Cert.KernelIdeal.Gen.facts, Cert.ReferenceIdeal.Gen.facts, pre_facts, pre_facts',
    frame_kernel, frame_kernelIdeal, fun m ρ _ => frame_kernelIdeal m ρ trivial,
    frame_reference, fun m ρ _ => frame_reference m ρ trivial, trivial, same_function⟩

end Cert.Proof

end
